-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_n" .f32 0x394CCCCD#32 ((1 / 5120 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v17)) (v3 : (c : Dev Cert.KernelIdeal.nD) → Buf (Elt Ideal) ((c.tc : Thread Cert.KernelIdeal.nD Cert.KernelIdeal.τ).loc Cert.KernelIdeal.main_v14_3)) (v4 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_v14_3) = v3 c
          ∧ r.2.mem ((c.tc : Thread Cert.KernelIdeal.nD Cert.KernelIdeal.τ).loc Cert.KernelIdeal.main_v18) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v93) = v2 c
          ∧ r.2.mem ((c.tc : Thread Cert.ReferenceIdeal.nD Cert.ReferenceIdeal.τ).loc Cert.ReferenceIdeal.main_v33_0) = v3 c
          ∧ r.2.mem ((c.tc : Thread Cert.ReferenceIdeal.nD Cert.ReferenceIdeal.τ).loc Cert.ReferenceIdeal.main_v33_1) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x4096x5120 : Shape := ⟨3, ![6, 4096, 5120]⟩
abbrev S5120 : Shape := ⟨1, ![5120]⟩
abbrev S6x4096 : Shape := ⟨2, ![6, 4096]⟩
abbrev S5120x1792 : Shape := ⟨2, ![5120, 1792]⟩
abbrev S1792 : Shape := ⟨1, ![1792]⟩
abbrev S64 : Shape := ⟨1, ![64]⟩
abbrev S_ : Shape := ⟨0, ![]⟩
abbrev S1x5120 : Shape := ⟨2, ![1, 5120]⟩
abbrev S6x1x4096 : Shape := ⟨3, ![6, 1, 4096]⟩
abbrev S64x1 : Shape := ⟨2, ![64, 1]⟩
abbrev S1x1792 : Shape := ⟨2, ![1, 1792]⟩
abbrev S6x10x4096x128 : Shape := ⟨4, ![6, 10, 4096, 128]⟩
abbrev S6x2x4096x128 : Shape := ⟨4, ![6, 2, 4096, 128]⟩
abbrev S1x256x5120 : Shape := ⟨3, ![1, 256, 5120]⟩
abbrev S1x1x256 : Shape := ⟨3, ![1, 1, 256]⟩
abbrev S1x10x256x128 : Shape := ⟨4, ![1, 10, 256, 128]⟩
abbrev S1x2x256x128 : Shape := ⟨4, ![1, 2, 256, 128]⟩
abbrev S256x128 : Shape := ⟨2, ![256, 128]⟩
abbrev S1x256x128 : Shape := ⟨3, ![1, 256, 128]⟩
abbrev S256 : Shape := ⟨1, ![256]⟩
abbrev S256x1 : Shape := ⟨2, ![256, 1]⟩
abbrev S1x128 : Shape := ⟨2, ![1, 128]⟩
abbrev S128x256 : Shape := ⟨2, ![128, 256]⟩
abbrev S1x256 : Shape := ⟨2, ![1, 256]⟩
abbrev S64x256 : Shape := ⟨2, ![64, 256]⟩
abbrev S256x5120 : Shape := ⟨2, ![256, 5120]⟩
abbrev S256x1792 : Shape := ⟨2, ![256, 1792]⟩
abbrev S1x1x256x128 : Shape := ⟨4, ![1, 1, 256, 128]⟩
abbrev S6x4096x10x128 : Shape := ⟨4, ![6, 4096, 10, 128]⟩
abbrev S6x4096x2x128 : Shape := ⟨4, ![6, 4096, 2, 128]⟩
abbrev S6x4096x1 : Shape := ⟨3, ![6, 4096, 1]⟩

abbrev nBuf : Space → Nat
  | .hbm => 32
  | .vmem => 18
  | .smem => 0
  | _ => 0

abbrev bufTy : (tb : Table) → Fin (tcTables nBuf tb) → BufTy
  | .hbm, ⟨0, _⟩ => ⟨S6x4096x5120, .bf16⟩
  | .hbm, ⟨1, _⟩ => ⟨S5120, .f32⟩
  | .hbm, ⟨2, _⟩ => ⟨S6x4096, .i32⟩
  | .hbm, ⟨3, _⟩ => ⟨S5120x1792, .fp8e4m3⟩
  | .hbm, ⟨4, _⟩ => ⟨S1792, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S1x5120, .f32⟩
  | .hbm, ⟨20, _⟩ => ⟨S6x1x4096, .i32⟩
  | .hbm, ⟨21, _⟩ => ⟨S64x1, .f32⟩
  | .hbm, ⟨22, _⟩ => ⟨S1x1792, .f32⟩
  | .hbm, ⟨23, _⟩ => ⟨S6x10x4096x128, .bf16⟩
  | .hbm, ⟨24, _⟩ => ⟨S6x2x4096x128, .bf16⟩
  | .hbm, ⟨25, _⟩ => ⟨S6x2x4096x128, .bf16⟩
  | .hbm, ⟨26, _⟩ => ⟨S6x4096x5120, .fp8e4m3⟩
  | .hbm, ⟨27, _⟩ => ⟨S6x1x4096, .f32⟩
  | .hbm, ⟨28, _⟩ => ⟨S6x4096x10x128, .bf16⟩
  | .hbm, ⟨29, _⟩ => ⟨S6x4096x2x128, .bf16⟩
  | .hbm, ⟨30, _⟩ => ⟨S6x4096x2x128, .bf16⟩
  | .hbm, ⟨31, _⟩ => ⟨S6x4096x1, .f32⟩
  | .local _ .vmem, ⟨0, _⟩ => ⟨S1x256x5120, .bf16⟩
  | .local _ .vmem, ⟨1, _⟩ => ⟨S1x256x5120, .bf16⟩
  | .local _ .vmem, ⟨2, _⟩ => ⟨S1x5120, .f32⟩
  | .local _ .vmem, ⟨3, _⟩ => ⟨S1x1x256, .i32⟩
  | .local _ .vmem, ⟨4, _⟩ => ⟨S1x1x256, .i32⟩
  | .local _ .vmem, ⟨5, _⟩ => ⟨S64x1, .f32⟩
  | .local _ .vmem, ⟨6, _⟩ => ⟨S5120x1792, .fp8e4m3⟩
  | .local _ .vmem, ⟨7, _⟩ => ⟨S1x1792, .f32⟩
  | .local _ .vmem, ⟨8, _⟩ => ⟨S1x10x256x128, .bf16⟩
  | .local _ .vmem, ⟨9, _⟩ => ⟨S1x10x256x128, .bf16⟩
  | .local _ .vmem, ⟨10, _⟩ => ⟨S1x2x256x128, .bf16⟩
  | .local _ .vmem, ⟨11, _⟩ => ⟨S1x2x256x128, .bf16⟩
  | .local _ .vmem, ⟨12, _⟩ => ⟨S1x2x256x128, .bf16⟩
  | .local _ .vmem, ⟨13, _⟩ => ⟨S1x2x256x128, .bf16⟩
  | .local _ .vmem, ⟨14, _⟩ => ⟨S1x256x5120, .fp8e4m3⟩
  | .local _ .vmem, ⟨15, _⟩ => ⟨S1x256x5120, .fp8e4m3⟩
  | .local _ .vmem, ⟨16, _⟩ => ⟨S1x1x256, .f32⟩
  | .local _ .vmem, ⟨17, _⟩ => ⟨S1x1x256, .f32⟩
  | _, _ => ⟨S6x4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev main_v14_3 : Ref sig .tc := ⟨.hbm, 26, rfl⟩
abbrev main_v14_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![6, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S5120x1792 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1792 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x10x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x5120 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "inv_n" => some ((1 / 5120 : ℝ) : EReal)
  | _ => none
-- ==== ReferenceIdeal.lean ====
abbrev S6x4096x5120 : Shape := ⟨3, ![6, 4096, 5120]⟩
abbrev S5120 : Shape := ⟨1, ![5120]⟩
abbrev S6x4096 : Shape := ⟨2, ![6, 4096]⟩
abbrev S5120x1792 : Shape := ⟨2, ![5120, 1792]⟩
abbrev S1792 : Shape := ⟨1, ![1792]⟩
abbrev S_ : Shape := ⟨0, ![]⟩
abbrev S6x4096x1 : Shape := ⟨3, ![6, 4096, 1]⟩
abbrev S1x1x5120 : Shape := ⟨3, ![1, 1, 5120]⟩
abbrev S6x4096x1792 : Shape := ⟨3, ![6, 4096, 1792]⟩
abbrev S1x1x1792 : Shape := ⟨3, ![1, 1, 1792]⟩
abbrev S6x4096x1280 : Shape := ⟨3, ![6, 4096, 1280]⟩
abbrev S6x4096x10x128 : Shape := ⟨4, ![6, 4096, 10, 128]⟩
abbrev S6x4096x256 : Shape := ⟨3, ![6, 4096, 256]⟩
abbrev S6x4096x2x128 : Shape := ⟨4, ![6, 4096, 2, 128]⟩
abbrev S64 : Shape := ⟨1, ![64]⟩
abbrev S1x1x64 : Shape := ⟨3, ![1, 1, 64]⟩
abbrev S6x4096x64 : Shape := ⟨3, ![6, 4096, 64]⟩
abbrev S6x4096x1x64 : Shape := ⟨4, ![6, 4096, 1, 64]⟩
abbrev S6x4096x10x64 : Shape := ⟨4, ![6, 4096, 10, 64]⟩
abbrev S6x4096x2x64 : Shape := ⟨4, ![6, 4096, 2, 64]⟩

abbrev nBuf : Space → Nat
  | .hbm => 115
  | .vmem => 6
  | .smem => 0
  | _ => 0

abbrev bufTy : (tb : Table) → Fin (tcTables nBuf tb) → BufTy
  | .hbm, ⟨0, _⟩ => ⟨S6x4096x5120, .bf16⟩
  | .hbm, ⟨1, _⟩ => ⟨S5120, .f32⟩
  | .hbm, ⟨2, _⟩ => ⟨S6x4096, .i32⟩
  | .hbm, ⟨3, _⟩ => ⟨S5120x1792, .fp8e4m3⟩
  | .hbm, ⟨4, _⟩ => ⟨S1792, .f32⟩
  | .hbm, ⟨5, _⟩ => ⟨S6x4096x5120, .f32⟩
  | .hbm, ⟨6, _⟩ => ⟨S6x4096x5120, .f32⟩
  | .hbm, ⟨7, _⟩ => ⟨S_, .f32⟩
  | .hbm, ⟨8, _⟩ => ⟨S6x4096, .f32⟩
  | .hbm, ⟨9, _⟩ => ⟨S6x4096x1, .f32⟩
  | .hbm, ⟨10, _⟩ => ⟨S_, .f32⟩
  | .hbm, ⟨11, _⟩ => ⟨S6x4096x1, .f32⟩
  | .hbm, ⟨12, _⟩ => ⟨S6x4096x1, .f32⟩
  | .hbm, ⟨13, _⟩ => ⟨S_, .f32⟩
  | .hbm, ⟨14, _⟩ => ⟨S6x4096x1, .f32⟩
  | .hbm, ⟨15, _⟩ => ⟨S6x4096x1, .f32⟩
  | .hbm, ⟨16, _⟩ => ⟨S6x4096x1, .f32⟩
  | .hbm, ⟨17, _⟩ => ⟨S6x4096x5120, .f32⟩
  | .hbm, ⟨18, _⟩ => ⟨S6x4096x5120, .f32⟩
  | .hbm, ⟨19, _⟩ => ⟨S1x1x5120, .f32⟩
  | .hbm, ⟨20, _⟩ => ⟨S6x4096x5120, .f32⟩
  | .hbm, ⟨21, _⟩ => ⟨S6x4096x5120, .f32⟩
  | .hbm, ⟨22, _⟩ => ⟨S6x4096x5120, .f32⟩
  | .hbm, ⟨23, _⟩ => ⟨S_, .f32⟩
  | .hbm, ⟨24, _⟩ => ⟨S6x4096, .f32⟩
  | .hbm, ⟨25, _⟩ => ⟨S6x4096x1, .f32⟩
  | .hbm, ⟨26, _⟩ => ⟨S_, .f32⟩
  | .hbm, ⟨27, _⟩ => ⟨S6x4096x1, .f32⟩
  | .hbm, ⟨28, _⟩ => ⟨S6x4096x1, .f32⟩
  | .hbm, ⟨29, _⟩ => ⟨S_, .f32⟩
  | .hbm, ⟨30, _⟩ => ⟨S6x4096x1, .f32⟩
  | .hbm, ⟨31, _⟩ => ⟨S6x4096x1, .i1⟩
  | .hbm, ⟨32, _⟩ => ⟨S_, .f32⟩
  | .hbm, ⟨33, _⟩ => ⟨S6x4096x1, .f32⟩
  | .hbm, ⟨34, _⟩ => ⟨S6x4096x1, .i1⟩
  | .hbm, ⟨35, _⟩ => ⟨S6x4096x1, .i1⟩
  | .hbm, ⟨36, _⟩ => ⟨S6x4096x1, .f32⟩
  | .hbm, ⟨37, _⟩ => ⟨S_, .f32⟩
  | .hbm, ⟨38, _⟩ => ⟨S6x4096x1, .f32⟩
  | .hbm, ⟨39, _⟩ => ⟨S6x4096x1, .f32⟩
  | .hbm, ⟨40, _⟩ => ⟨S6x4096x1, .f32⟩
  | .hbm, ⟨41, _⟩ => ⟨S6x4096x1, .f32⟩
  | .hbm, ⟨42, _⟩ => ⟨S_, .f32⟩
  | .hbm, ⟨43, _⟩ => ⟨S6x4096x1, .f32⟩
  | .hbm, ⟨44, _⟩ => ⟨S6x4096x1, .f32⟩
  | .hbm, ⟨45, _⟩ => ⟨S_, .f32⟩
  | .hbm, ⟨46, _⟩ => ⟨S6x4096x1, .f32⟩
  | .hbm, ⟨47, _⟩ => ⟨S6x4096x1, .f32⟩
  | .hbm, ⟨48, _⟩ => ⟨S6x4096x5120, .fp8e4m3⟩
  | .hbm, ⟨49, _⟩ => ⟨S6x4096x1, .f32⟩
  | .hbm, ⟨50, _⟩ => ⟨S6x4096x1792, .f32⟩
  | .hbm, ⟨51, _⟩ => ⟨S6x4096x1792, .f32⟩
  | .hbm, ⟨52, _⟩ => ⟨S6x4096x1792, .f32⟩
  | .hbm, ⟨53, _⟩ => ⟨S1x1x1792, .f32⟩
  | .hbm, ⟨54, _⟩ => ⟨S6x4096x1792, .f32⟩
  | .hbm, ⟨55, _⟩ => ⟨S6x4096x1792, .f32⟩
  | .hbm, ⟨56, _⟩ => ⟨S6x4096x1280, .f32⟩
  | .hbm, ⟨57, _⟩ => ⟨S6x4096x10x128, .f32⟩
  | .hbm, ⟨58, _⟩ => ⟨S6x4096x256, .f32⟩
  | .hbm, ⟨59, _⟩ => ⟨S6x4096x2x128, .f32⟩
  | .hbm, ⟨60, _⟩ => ⟨S6x4096x256, .f32⟩
  | .hbm, ⟨61, _⟩ => ⟨S6x4096x2x128, .f32⟩
  | .hbm, ⟨62, _⟩ => ⟨S64, .f32⟩
  | .hbm, ⟨63, _⟩ => ⟨S_, .f32⟩
  | .hbm, ⟨64, _⟩ => ⟨S64, .f32⟩
  | .hbm, ⟨65, _⟩ => ⟨S64, .f32⟩
  | .hbm, ⟨66, _⟩ => ⟨S_, .f32⟩
  | .hbm, ⟨67, _⟩ => ⟨S64, .f32⟩
  | .hbm, ⟨68, _⟩ => ⟨S64, .f32⟩
  | .hbm, ⟨69, _⟩ => ⟨S64, .f32⟩
  | .hbm, ⟨70, _⟩ => ⟨S_, .f32⟩
  | .hbm, ⟨71, _⟩ => ⟨S64, .f32⟩
  | .hbm, ⟨72, _⟩ => ⟨S64, .f32⟩
  | .hbm, ⟨73, _⟩ => ⟨S_, .f32⟩
  | .hbm, ⟨74, _⟩ => ⟨S64, .f32⟩
  | .hbm, ⟨75, _⟩ => ⟨S64, .f32⟩
  | .hbm, ⟨76, _⟩ => ⟨S6x4096, .f32⟩
  | .hbm, ⟨77, _⟩ => ⟨S6x4096x1, .f32⟩
  | .hbm, ⟨78, _⟩ => ⟨S1x1x64, .f32⟩
  | .hbm, ⟨79, _⟩ => ⟨S6x4096x64, .f32⟩
  | .hbm, ⟨80, _⟩ => ⟨S6x4096x64, .f32⟩
  | .hbm, ⟨81, _⟩ => ⟨S6x4096x64, .f32⟩
  | .hbm, ⟨82, _⟩ => ⟨S6x4096x64, .f32⟩
  | .hbm, ⟨83, _⟩ => ⟨S6x4096x1x64, .f32⟩
  | .hbm, ⟨84, _⟩ => ⟨S6x4096x64, .f32⟩
  | .hbm, ⟨85, _⟩ => ⟨S6x4096x1x64, .f32⟩
  | .hbm, ⟨86, _⟩ => ⟨S6x4096x10x64, .f32⟩
  | .hbm, ⟨87, _⟩ => ⟨S6x4096x10x64, .f32⟩
  | .hbm, ⟨88, _⟩ => ⟨S6x4096x10x64, .f32⟩
  | .hbm, ⟨89, _⟩ => ⟨S6x4096x10x64, .f32⟩
  | .hbm, ⟨90, _⟩ => ⟨S6x4096x10x64, .f32⟩
  | .hbm, ⟨91, _⟩ => ⟨S6x4096x10x64, .f32⟩
  | .hbm, ⟨92, _⟩ => ⟨S6x4096x10x64, .f32⟩
  | .hbm, ⟨93, _⟩ => ⟨S6x4096x10x64, .f32⟩
  | .hbm, ⟨94, _⟩ => ⟨S6x4096x10x64, .f32⟩
  | .hbm, ⟨95, _⟩ => ⟨S6x4096x10x64, .f32⟩
  | .hbm, ⟨96, _⟩ => ⟨S6x4096x10x64, .f32⟩
  | .hbm, ⟨97, _⟩ => ⟨S6x4096x10x64, .f32⟩
  | .hbm, ⟨98, _⟩ => ⟨S6x4096x10x128, .f32⟩
  | .hbm, ⟨99, _⟩ => ⟨S6x4096x10x128, .bf16⟩
  | .hbm, ⟨100, _⟩ => ⟨S6x4096x2x64, .f32⟩
  | .hbm, ⟨101, _⟩ => ⟨S6x4096x2x64, .f32⟩
  | .hbm, ⟨102, _⟩ => ⟨S6x4096x2x64, .f32⟩
  | .hbm, ⟨103, _⟩ => ⟨S6x4096x2x64, .f32⟩
  | .hbm, ⟨104, _⟩ => ⟨S6x4096x2x64, .f32⟩
  | .hbm, ⟨105, _⟩ => ⟨S6x4096x2x64, .f32⟩
  | .hbm, ⟨106, _⟩ => ⟨S6x4096x2x64, .f32⟩
  | .hbm, ⟨107, _⟩ => ⟨S6x4096x2x64, .f32⟩
  | .hbm, ⟨108, _⟩ => ⟨S6x4096x2x64, .f32⟩
  | .hbm, ⟨109, _⟩ => ⟨S6x4096x2x64, .f32⟩
  | .hbm, ⟨110, _⟩ => ⟨S6x4096x2x64, .f32⟩
  | .hbm, ⟨111, _⟩ => ⟨S6x4096x2x64, .f32⟩
  | .hbm, ⟨112, _⟩ => ⟨S6x4096x2x128, .f32⟩
  | .hbm, ⟨113, _⟩ => ⟨S6x4096x2x128, .bf16⟩
  | .hbm, ⟨114, _⟩ => ⟨S6x4096x2x128, .bf16⟩
  | .local _ .vmem, ⟨0, _⟩ => ⟨S6x4096x5120, .f32⟩
  | .local _ .vmem, ⟨1, _⟩ => ⟨S6x4096x1, .f32⟩
  | .local _ .vmem, ⟨2, _⟩ => ⟨S5120x1792, .fp8e4m3⟩
  | .local _ .vmem, ⟨3, _⟩ => ⟨S6x4096x5120, .fp8e4m3⟩
  | .local _ .vmem, ⟨4, _⟩ => ⟨S6x4096x1, .f32⟩
  | .local _ .vmem, ⟨5, _⟩ => ⟨S6x4096x1792, .f32⟩
  | _, _ => ⟨S6x4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33_0 : Ref sig .tc := ⟨.hbm, 48, rfl⟩
abbrev main_v33_1 : Ref sig .tc := ⟨.hbm, 49, rfl⟩
abbrev main_v33_2 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_cst_12 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6x4096x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x1792 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x4096x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x4096x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x4096x1792 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Block.lean ====
/- What one grid point of the kernel stores, written over the 128-lane chunks of its row block: the definitions follow
   the kernel's loops over the chunks and over the heads, and each of the run's stored values is one of them. -/
module

public import proofs.«01_k».proof.Proof.Gen.KernelIdeal.Frame
public import Idealize.ShloMosaic.Lib.Pipeline.Value
public import Idealize.ShloMosaic.Lib.Pipeline.ValueKit.Acc

@[expose] public section

set_option maxRecDepth 16384

noncomputable section

namespace Cert.KernelIdeal.Block

open Cert.KernelIdeal Cert.KernelIdeal.Gen Idealize.ShloMosaic Idealize.ShloMosaic.TcCoe Idealize.SL.Sem

variable {F : FTy → Type} [FloatOps F] [Named F]

/-! ### The chunks -/

theorem inbX (k : Fin 40) : ∀ a, (![0, 0, 128 * k.val] : Fin 3 → Nat) a + S1x256x128.size a ≤ S1x256x5120.size a := by
  intro a; fin_cases a
  · show 0 + 1 ≤ 1; omega
  · show 0 + 256 ≤ 256; omega
  · show 128 * k.val + 128 ≤ 5120; omega

theorem inbG (k : Fin 40) : ∀ a, (![0, 128 * k.val] : Fin 2 → Nat) a + S1x128.size a ≤ S1x5120.size a := by
  intro a; fin_cases a
  · show 0 + 1 ≤ 1; omega
  · show 128 * k.val + 128 ≤ 5120; omega

theorem inbW (h : Fin 14) : ∀ a, (![0, 128 * h.val] : Fin 2 → Nat) a + S1x128.size a ≤ S1x1792.size a := by
  intro a; fin_cases a
  · show 0 + 1 ≤ 1; omega
  · show 128 * h.val + 128 ≤ 1792; omega

theorem slcA (h : Fin 14) : S256x1792.Slices ![0, 128 * h.val] S256x128 := by
  fin_cases h <;> decide

/-- Chunk `k` of the row block. -/
abbrev xCh (x0 : Vec F S1x256x5120 .bf16) (k : Fin 40) : Vec F S1x256x128 .bf16 :=
  View.ld x0 (Rect.unit (s := S1x256x5120) ![0, 0, 128 * k.val] S1x256x128.size (inbX k))
/-- Chunk `k` of the gain. -/
abbrev gCh (x1 : Vec F S1x5120 .f32) (k : Fin 40) : Vec F S1x128 .f32 :=
  View.ld x1 (Rect.unit (s := S1x5120) ![0, 128 * k.val] S1x128.size (inbG k))
/-- Head `h` of the weight scales. -/
abbrev wCh (x5 : Vec F S1x1792 .f32) (h : Fin 14) : Vec F S1x128 .f32 :=
  View.ld x5 (Rect.unit (s := S1x1792) ![0, 128 * h.val] S1x128.size (inbW h))

/-- A chunk of the row block as floats. -/
def xF (v : Vec F S1x256x128 .bf16) : FVec F S256x128 .f32 :=
  extf .f32 (shapeCast S256x128 v shapeCasts_S1x256x128_S256x128) bitsLt_bf16_f32
/-- One row of 128 lanes repeated over the 256 rows. -/
def gF (v : Vec F S1x128 .f32) : FVec F S256x128 .f32 :=
  broadcastTo S256x128 (shapeCast S1x128 v shapeCasts_S1x128_S1x128) broadcasts_S1x128_S256x128

/-- The sum of the squares of the first `n` chunks, lane by lane. -/
def ssV (x0 : Vec F S1x256x5120 .bf16) : (n : Nat) → n ≤ 40 → FVec F S256x128 .f32
  | 0, _ => broadcast S256x128 (Scalar.ofBits .f32 0x00000000#32)
  | n + 1, h => addf (ssV x0 n (Nat.le_of_succ_le h)) (mulf (xF (xCh x0 ⟨n, h⟩)) (xF (xCh x0 ⟨n, h⟩)))

/-- The reciprocal root of the mean square plus eps, repeated over the lanes. -/
def rsV (x0 : Vec F S1x256x5120 .bf16) : FVec F S256x128 .f32 :=
  broadcastTo S256x128 (shapeCast S256x1 (rsqrt (addf (mulf
      (shapeCast S256x1 (multiReduction .add [1] S256 (ssV x0 40 (Nat.le_refl _)) 0x00000000#32 reduces_S256x128_S256 (.inl rfl) rfl) shapeCasts_S256_S256x1)
      (broadcast S256x1 (Named.named κ "inv_n" 0x394CCCCD#32)))
    (broadcast S256x1 (Scalar.ofBits .f32 0x358637BD#32)))) shapeCasts_S256x1_S256x1) broadcasts_S256x1_S256x128

/-- Chunk `k` of the normalised rows, from the reciprocal roots `rs`. -/
def hOf (x0 : Vec F S1x256x5120 .bf16) (x1 : Vec F S1x5120 .f32) (rs : FVec F S256x128 .f32) (k : Fin 40) : FVec F S256x128 .f32 :=
  mulf (mulf (xF (xCh x0 k)) rs) (gF (gCh x1 k))

/-- The maximum of the magnitudes of the first `n` chunks and zero, lane by lane. -/
def amOf (x0 : Vec F S1x256x5120 .bf16) (x1 : Vec F S1x5120 .f32) (rs : FVec F S256x128 .f32) : (n : Nat) → n ≤ 40 → FVec F S256x128 .f32
  | 0, _ => broadcast S256x128 (Scalar.ofBits .f32 0x00000000#32)
  | n + 1, h => maximumf (amOf x0 x1 rs n (Nat.le_of_succ_le h)) (absf (hOf x0 x1 rs ⟨n, h⟩))

/-- The row's maximum times the float 1/448, repeated over the lanes, from the lanes' maxima. -/
def tOf (am : FVec F S256x128 .f32) : FVec F S256x128 .f32 :=
  mulf (broadcastTo S256x128 (shapeCast S256x1 (shapeCast S256x1
      (multiReduction .maximumf [1] S256 am 0xFF800000#32 reduces_S256x128_S256 (.inl rfl) rfl) shapeCasts_S256_S256x1)
      shapeCasts_S256x1_S256x1) broadcasts_S256x1_S256x128)
    (broadcast S256x128 (Scalar.ofBits .f32 0x3B124925#32))

/-- One step of the search for the exponent field: `bit` is kept where `t` is not below the power of two it gives. -/
def stepV (t : FVec F S256x128 .f32) (bit : BitVec 32) (r : IVec S256x128 32) : IVec S256x128 32 :=
  select (cmpf .oge t (bitcastToFloat .f32 (shli (ori r (broadcast S256x128 bit)) (broadcast S256x128 23#32))))
    (ori r (broadcast S256x128 bit)) r

/-- The exponent field of `t`, by the eight steps. -/
def biasedV (t : FVec F S256x128 .f32) : IVec S256x128 32 :=
  stepV t 1#32 (stepV t 2#32 (stepV t 4#32 (stepV t 8#32 (stepV t 16#32 (stepV t 32#32 (stepV t 64#32
    (stepV t 128#32 (broadcast S256x128 0#32))))))))

/-- Neither zero (nor subnormal) nor infinite. -/
def plainV (b : IVec S256x128 32) : IVec S256x128 1 :=
  andi (cmpi .ne b (broadcast S256x128 0#32)) (cmpi .ne b (broadcast S256x128 255#32))

/-- The scale: the power of two of exponent field `b + 1`. -/
def scaleOf (b : IVec S256x128 32) : FVec F S256x128 .f32 :=
  bitcastToFloat .f32 (shli (select (plainV b) (addi b (broadcast S256x128 1#32)) (broadcast S256x128 127#32)) (broadcast S256x128 23#32))

/-- The inverse scale: the power of two of exponent field `253 - b`. -/
def invOf (b : IVec S256x128 32) : FVec F S256x128 .f32 :=
  bitcastToFloat .f32 (shli (select (plainV b) (maxsi (subi (broadcast S256x128 253#32) b) (broadcast S256x128 0#32)) (broadcast S256x128 127#32)) (broadcast S256x128 23#32))

/-- Chunk `k` of the codes, from the reciprocal roots and the inverse scales. -/
def codeOf (x0 : Vec F S1x256x5120 .bf16) (x1 : Vec F S1x5120 .f32) (rs inv : FVec F S256x128 .f32) (k : Fin 40) : FVec F S1x256x128 .fp8e4m3 :=
  shapeCast S1x256x128 (truncf .fp8e4m3 (minimumf (broadcast S256x128 (Scalar.ofBits .f32 0x43E00000#32))
    (maximumf (broadcast S256x128 (Scalar.ofBits .f32 0xC3E00000#32)) (mulf (hOf x0 x1 rs k) inv))) bitsLt_fp8e4m3_f32)
    shapeCasts_S256x128_S1x256x128

/-- The stores of the first `n` chunks of the codes, the last first. -/
def codePieces (x0 : Vec F S1x256x5120 .bf16) (x1 : Vec F S1x5120 .f32) (rs inv : FVec F S256x128 .f32) :
    (n : Nat) → n ≤ 40 → List (View.Piece (Elt F) S1x256x5120 .fp8e4m3)
  | 0, _ => []
  | n + 1, h => ⟨Rect.unit (s := S1x256x5120) ![0, 0, 128 * n] S1x256x128.size (inbX ⟨n, h⟩), codeOf x0 x1 rs inv ⟨n, h⟩⟩
      :: codePieces x0 x1 rs inv n (Nat.le_of_succ_le h)

/-- The exponent field of the rows' scaled maxima. -/
def bV (x0 : Vec F S1x256x5120 .bf16) (x1 : Vec F S1x5120 .f32) : IVec S256x128 32 :=
  biasedV (tOf (amOf x0 x1 (rsV x0) 40 (Nat.le_refl _)))

/-- The stores of the codes of a point. -/
def codesV (x0 : Vec F S1x256x5120 .bf16) (x1 : Vec F S1x5120 .f32) : List (View.Piece (Elt F) S1x256x5120 .fp8e4m3) :=
  codePieces x0 x1 (rsV x0) (invOf (bV x0 x1)) 40 (Nat.le_refl _)

/-! ### Projection, dequantisation and rotation -/

/-- The projection of the codes. -/
def accOf (codes : Vec F S1x256x5120 .fp8e4m3) (x4 : Vec F S5120x1792 .fp8e4m3) : FVec F S256x1792 .f32 :=
  matmul dot_S256x5120_S5120x1792_S256x1792_1_0_0_1_n_n none
    (shapeCast S256x5120 (View.ld codes (Rect.unit (s := S1x256x5120) ![0, 0, 0] S1x256x5120.size inb_S1x256x5120_S1x256x5120_0_0_0)) shapeCasts_S1x256x5120_S256x5120)
    (View.ld x4 (Rect.unit (s := S5120x1792) ![0, 0] S5120x1792.size inb_S5120x1792_S5120x1792_0_0))
    (constant S256x1792 .f32 0x00000000#32)

/-- The angles of a block's positions: frequency down, position across. -/
def angV (x2 : Vec F S1x1x256 .i32) (x3 : Vec F S64x1 .f32) : FVec F S64x256 .f32 :=
  mulf (broadcastTo S64x256 (shapeCast S64x1 (View.ld x3 (Rect.unit (s := S64x1) ![0, 0] S64x1.size inb_S64x1_S64x1_0_0)) shapeCasts_S64x1_S64x1) broadcasts_S64x1_S64x256)
    (broadcastTo S64x256 (sitofp .f32 (shapeCast S1x256 (View.ld x2 (Rect.unit (s := S1x1x256) ![0, 0, 0] S1x1x256.size inb_S1x1x256_S1x1x256_0_0_0)) shapeCasts_S1x1x256_S1x256)) broadcasts_S1x256_S64x256)

/-- The cosines, once for each half of the lanes. -/
def cosV (ang : FVec F S64x256 .f32) : FVec F S256x128 .f32 :=
  transpose S256x128 [1, 0] (concatenate S128x256 0 [⟨S64x256, cos ang⟩, ⟨S64x256, cos ang⟩] concatenates_S64x256_S64x256_S128x256_d0) transposes_S128x256_p1_0_S256x128

/-- The sines, negated on the first half of the lanes. -/
def sinV (ang : FVec F S64x256 .f32) : FVec F S256x128 .f32 :=
  transpose S256x128 [1, 0] (concatenate S128x256 0 [⟨S64x256, subf (broadcast S64x256 (Scalar.ofBits .f32 0x00000000#32)) (sin ang)⟩, ⟨S64x256, sin ang⟩] concatenates_S64x256_S64x256_S128x256_d0) transposes_S128x256_p1_0_S256x128

/-- Head `h` of the projection with the two scales. -/
def yOf (acc : FVec F S256x1792 .f32) (sc : FVec F S256x128 .f32) (x5 : Vec F S1x1792 .f32) (h : Fin 14) : FVec F S256x128 .f32 :=
  mulf (mulf (extractStridedSlice S256x128 ![0, 128 * h.val] acc (slcA h)) sc) (gF (wCh x5 h))

/-- The rotation of one head. -/
def ropeOf (co si y : FVec F S256x128 .f32) : FVec F S256x128 .f32 :=
  addf (mulf y co) (mulf (dynamicRotate 1 64#32 none y rotates_S256x128_d1) si)

/-- One head as it is stored. -/
def stored (v : FVec F S256x128 .f32) : Vec F S1x1x256x128 .bf16 :=
  shapeCast S1x1x256x128 (truncf .bf16 v bitsLt_bf16_f32) shapeCasts_S256x128_S1x1x256x128

theorem inbQ (k : Fin 10) : ∀ a, (![0, k.val, 0, 0] : Fin 4 → Nat) a + S1x1x256x128.size a ≤ S1x10x256x128.size a := by
  intro a; fin_cases a
  · show 0 + 1 ≤ 1; omega
  · show k.val + 1 ≤ 10; omega
  · show 0 + 256 ≤ 256; omega
  · show 0 + 128 ≤ 128; omega

theorem inbK (k : Fin 2) : ∀ a, (![0, k.val, 0, 0] : Fin 4 → Nat) a + S1x1x256x128.size a ≤ S1x2x256x128.size a := by
  intro a; fin_cases a
  · show 0 + 1 ≤ 1; omega
  · show k.val + 1 ≤ 2; omega
  · show 0 + 256 ≤ 256; omega
  · show 0 + 128 ≤ 128; omega

/-- The stores of the first `n` query heads, the last first. -/
def qPieces (acc : FVec F S256x1792 .f32) (sc co si : FVec F S256x128 .f32) (x5 : Vec F S1x1792 .f32) :
    (n : Nat) → n ≤ 10 → List (View.Piece (Elt F) S1x10x256x128 .bf16)
  | 0, _ => []
  | n + 1, h => ⟨Rect.unit (s := S1x10x256x128) ![0, n, 0, 0] S1x1x256x128.size (inbQ ⟨n, h⟩), stored (ropeOf co si (yOf acc sc x5 ⟨n, by omega⟩))⟩
      :: qPieces acc sc co si x5 n (Nat.le_of_succ_le h)

/-- The stores of the first `n` key heads, the last first. -/
def kPieces (acc : FVec F S256x1792 .f32) (sc co si : FVec F S256x128 .f32) (x5 : Vec F S1x1792 .f32) :
    (n : Nat) → n ≤ 2 → List (View.Piece (Elt F) S1x2x256x128 .bf16)
  | 0, _ => []
  | n + 1, h => ⟨Rect.unit (s := S1x2x256x128) ![0, n, 0, 0] S1x1x256x128.size (inbK ⟨n, h⟩), stored (ropeOf co si (yOf acc sc x5 ⟨10 + n, by omega⟩))⟩
      :: kPieces acc sc co si x5 n (Nat.le_of_succ_le h)

/-- The stores of the first `n` value heads, the last first. -/
def vPieces (acc : FVec F S256x1792 .f32) (sc : FVec F S256x128 .f32) (x5 : Vec F S1x1792 .f32) :
    (n : Nat) → n ≤ 2 → List (View.Piece (Elt F) S1x2x256x128 .bf16)
  | 0, _ => []
  | n + 1, h => ⟨Rect.unit (s := S1x2x256x128) ![0, n, 0, 0] S1x1x256x128.size (inbK ⟨n, h⟩), stored (yOf acc sc x5 ⟨12 + n, by omega⟩)⟩
      :: vPieces acc sc x5 n (Nat.le_of_succ_le h)

/-- The projection of a point, from its blocks. -/
def accV (x0 : Vec F S1x256x5120 .bf16) (x1 : Vec F S1x5120 .f32) (x4 : Vec F S5120x1792 .fp8e4m3) : FVec F S256x1792 .f32 :=
  accOf (View.canon (codesV x0 x1)) x4

/-- The scales as they are stored: one row of the block's 256. -/
def scaleRow (sc : FVec F S256x128 .f32) : Vec F S1x1x256 .f32 :=
  shapeCast S1x1x256 (extractStridedSlice S1x256 ![0, 0] (transpose S128x256 [1, 0] sc transposes_S256x128_p1_0_S128x256) slices_S128x256_o0_0_S1x256) shapeCasts_S1x256_S1x1x256

/-! ### The run's values are the definitions above -/

section words

variable (c : Dev nD) (arg2 : Memref sig .tc .vmem S1x256x5120 .bf16) (harg2 : arg2.IsWhole)
  (arg3 : Memref sig .tc .vmem S1x5120 .f32) (harg3 : arg3.IsWhole)
  (x0 : Vec F S1x256x5120 .bf16) (x1 : Vec F S1x5120 .f32)

theorem word_rs : kernelRun0_A.sl.r_2 c arg2 harg2 x0 = rsV (arg2.view.read (Elt F) (harg2.unread x0)) := by
  sl_kernel_rfl

theorem word_am : kernelRun0_A.sl.v610 c arg2 harg2 arg3 harg3 x0 x1
    = amOf (arg2.view.read (Elt F) (harg2.unread x0)) (arg3.view.read (Elt F) (harg3.unread x1)) (kernelRun0_A.sl.r_2 c arg2 harg2 x0) 40 (Nat.le_refl _) := by
  sl_kernel_rfl

theorem word_t : kernelRun0_A.sl.v616 c arg2 harg2 arg3 harg3 x0 x1 = tOf (kernelRun0_A.sl.v610 c arg2 harg2 arg3 harg3 x0 x1) := by
  sl_kernel_rfl

theorem word_s1 : kernelRun0_A.sl.v624 c arg2 harg2 arg3 harg3 x0 x1
    = stepV (kernelRun0_A.sl.v616 c arg2 harg2 arg3 harg3 x0 x1) 128#32 (broadcast S256x128 0#32) := by sl_kernel_rfl
theorem word_s2 : kernelRun0_A.sl.v631 c arg2 harg2 arg3 harg3 x0 x1
    = stepV (kernelRun0_A.sl.v616 c arg2 harg2 arg3 harg3 x0 x1) 64#32 (kernelRun0_A.sl.v624 c arg2 harg2 arg3 harg3 x0 x1) := by sl_kernel_rfl
theorem word_s3 : kernelRun0_A.sl.v638 c arg2 harg2 arg3 harg3 x0 x1
    = stepV (kernelRun0_A.sl.v616 c arg2 harg2 arg3 harg3 x0 x1) 32#32 (kernelRun0_A.sl.v631 c arg2 harg2 arg3 harg3 x0 x1) := by sl_kernel_rfl
theorem word_s4 : kernelRun0_A.sl.v645 c arg2 harg2 arg3 harg3 x0 x1
    = stepV (kernelRun0_A.sl.v616 c arg2 harg2 arg3 harg3 x0 x1) 16#32 (kernelRun0_A.sl.v638 c arg2 harg2 arg3 harg3 x0 x1) := by sl_kernel_rfl
theorem word_s5 : kernelRun0_A.sl.v652 c arg2 harg2 arg3 harg3 x0 x1
    = stepV (kernelRun0_A.sl.v616 c arg2 harg2 arg3 harg3 x0 x1) 8#32 (kernelRun0_A.sl.v645 c arg2 harg2 arg3 harg3 x0 x1) := by sl_kernel_rfl
theorem word_s6 : kernelRun0_A.sl.v659 c arg2 harg2 arg3 harg3 x0 x1
    = stepV (kernelRun0_A.sl.v616 c arg2 harg2 arg3 harg3 x0 x1) 4#32 (kernelRun0_A.sl.v652 c arg2 harg2 arg3 harg3 x0 x1) := by sl_kernel_rfl
theorem word_s7 : kernelRun0_A.sl.v666 c arg2 harg2 arg3 harg3 x0 x1
    = stepV (kernelRun0_A.sl.v616 c arg2 harg2 arg3 harg3 x0 x1) 2#32 (kernelRun0_A.sl.v659 c arg2 harg2 arg3 harg3 x0 x1) := by sl_kernel_rfl
theorem word_s8 : kernelRun0_A.sl.v673 c arg2 harg2 arg3 harg3 x0 x1
    = stepV (kernelRun0_A.sl.v616 c arg2 harg2 arg3 harg3 x0 x1) 1#32 (kernelRun0_A.sl.v666 c arg2 harg2 arg3 harg3 x0 x1) := by sl_kernel_rfl

theorem word_biased : kernelRun0_A.sl.v673 c arg2 harg2 arg3 harg3 x0 x1
    = bV (arg2.view.read (Elt F) (harg2.unread x0)) (arg3.view.read (Elt F) (harg3.unread x1)) := by
  rw [word_s8, word_s7, word_s6, word_s5, word_s4, word_s3, word_s2, word_s1, word_t, word_am, word_rs, bV, biasedV]

theorem word_scale : kernelRun0_A.sl.v691 c arg2 harg2 arg3 harg3 x0 x1
    = scaleOf (kernelRun0_A.sl.v673 c arg2 harg2 arg3 harg3 x0 x1) := by
  sl_kernel_rfl

theorem word_inv : kernelRun0_A.sl.v694 c arg2 harg2 arg3 harg3 x0 x1
    = invOf (kernelRun0_A.sl.v673 c arg2 harg2 arg3 harg3 x0 x1) := by
  sl_kernel_rfl

theorem word_codes : kernelRun0_A.sl.H9_40 c arg2 harg2 arg3 harg3 x0 x1
    = codePieces (arg2.view.read (Elt F) (harg2.unread x0)) (arg3.view.read (Elt F) (harg3.unread x1))
      (kernelRun0_A.sl.r_2 c arg2 harg2 x0) (kernelRun0_A.sl.v694 c arg2 harg2 arg3 harg3 x0 x1) 40 (Nat.le_refl _) := by
  sl_kernel_rfl

variable (arg4 : Memref sig .tc .vmem S1x1x256 .i32) (harg4 : arg4.IsWhole) (arg5 : Memref sig .tc .vmem S64x1 .f32) (harg5 : arg5.IsWhole)
  (arg6 : Memref sig .tc .vmem S5120x1792 .fp8e4m3) (harg6 : arg6.IsWhole) (arg11 : Memref sig .tc .vmem S1x256x5120 .fp8e4m3)
  (x2 : Vec F S1x1x256 .i32) (x3 : Vec F S64x1 .f32) (x4 : Vec F S5120x1792 .fp8e4m3)

theorem word_acc : kernelRun0_A.sl.v1399 c arg2 harg2 arg3 harg3 arg6 harg6 arg11 x0 x1 x4
    = accOf (View.canon (kernelRun0_A.sl.H9_40 c arg2 harg2 arg3 harg3 x0 x1)) (arg6.view.read (Elt F) (harg6.unread x4)) := by
  unfold kernelRun0_A.sl.v1399 kernelRun0_A.sl.v1397 kernelRun0_A.sl.v1396
  rw [View.readCov_eq_canon']
  rfl

theorem word_cos : kernelRun0_A.sl.v1391 c arg4 harg4 arg5 harg5 x2 x3
    = cosV (angV (arg4.view.read (Elt F) (harg4.unread x2)) (arg5.view.read (Elt F) (harg5.unread x3))) := by
  sl_kernel_rfl

theorem word_sin : kernelRun0_A.sl.v1395 c arg4 harg4 arg5 harg5 x2 x3
    = sinV (angV (arg4.view.read (Elt F) (harg4.unread x2)) (arg5.view.read (Elt F) (harg5.unread x3))) := by
  sl_kernel_rfl

end words

/-! ### What a point leaves in its five result blocks -/

variable (m : (ℓ : Loc nD τ sig) → Buf (Elt F) ℓ)

theorem codes_words (c : Dev nD) (t : Fin cfg0.N) :
    kernelRun0_A.sl.H9_40 c (ms0_0 t) (hs0_0 t) (ms0_1 t) (hs0_1 t) (iblk m c 0 t) (iblk m c 1 t)
      = codesV (iblk m c 0 t) (iblk m c 1 t) := by
  rw [word_codes, word_inv, word_biased, word_rs, (hs0_0 t).read_unread, (hs0_1 t).read_unread, codesV]

theorem scale_words (c : Dev nD) (t : Fin cfg0.N) :
    kernelRun0_A.sl.v691 c (ms0_0 t) (hs0_0 t) (ms0_1 t) (hs0_1 t) (iblk m c 0 t) (iblk m c 1 t)
      = scaleOf (bV (iblk m c 0 t) (iblk m c 1 t)) := by
  rw [word_scale, word_biased, (hs0_0 t).read_unread, (hs0_1 t).read_unread]

theorem acc_words (c : Dev nD) (t : Fin cfg0.N) :
    kernelRun0_A.sl.v1399 c (ms0_0 t) (hs0_0 t) (ms0_1 t) (hs0_1 t) (ms0_4 t) (hs0_4 t) (ms0_9 t) (iblk m c 0 t) (iblk m c 1 t) (iblk m c 4 t)
      = accV (iblk m c 0 t) (iblk m c 1 t) (iblk m c 4 t) := by
  rw [word_acc, codes_words, (hs0_4 t).read_unread, accV]

/-- The queries a point leaves. -/
theorem out6_eq (c : Dev nD) (t : Fin cfg0.N) :
    (outsAt0 m c t).1 = View.canon (qPieces (accV (iblk m c 0 t) (iblk m c 1 t) (iblk m c 4 t)) (scaleOf (bV (iblk m c 0 t) (iblk m c 1 t)))
      (cosV (angV (iblk m c 2 t) (iblk m c 3 t))) (sinV (angV (iblk m c 2 t) (iblk m c 3 t))) (iblk m c 5 t) 10 (Nat.le_refl _)) := by
  unfold outsAt0
  dsimp only
  unfold out0_A_6
  rw [View.read_writes_eq_canon _ _ _ (cover0_A_6 c _ _ _ _ _ _ _ _ _ _ _ _ _ _ _ _ _ _ _ _ _ _ _ _ _ _ _ _ _)]
  unfold kernelRun0_A
  dsimp only
  refine congrArg View.canon (Eq.trans (b := qPieces
    (kernelRun0_A.sl.v1399 c (ms0_0 t) (hs0_0 t) (ms0_1 t) (hs0_1 t) (ms0_4 t) (hs0_4 t) (ms0_9 t) (iblk m c 0 t) (iblk m c 1 t) (iblk m c 4 t))
    (kernelRun0_A.sl.v691 c (ms0_0 t) (hs0_0 t) (ms0_1 t) (hs0_1 t) (iblk m c 0 t) (iblk m c 1 t))
    (kernelRun0_A.sl.v1391 c (ms0_2 t) (hs0_2 t) (ms0_3 t) (hs0_3 t) (iblk m c 2 t) (iblk m c 3 t))
    (kernelRun0_A.sl.v1395 c (ms0_2 t) (hs0_2 t) (ms0_3 t) (hs0_3 t) (iblk m c 2 t) (iblk m c 3 t))
    ((ms0_5 t).view.read (Elt F) ((hs0_5 t).unread (iblk m c 5 t))) 10 (Nat.le_refl _)) (by sl_kernel_rfl) ?_)
  rw [acc_words, scale_words, word_cos, word_sin, (hs0_5 t).read_unread, (hs0_2 t).read_unread, (hs0_3 t).read_unread]

/-- The keys a point leaves. -/
theorem out7_eq (c : Dev nD) (t : Fin cfg0.N) :
    (outsAt0 m c t).2.1 = View.canon (kPieces (accV (iblk m c 0 t) (iblk m c 1 t) (iblk m c 4 t)) (scaleOf (bV (iblk m c 0 t) (iblk m c 1 t)))
      (cosV (angV (iblk m c 2 t) (iblk m c 3 t))) (sinV (angV (iblk m c 2 t) (iblk m c 3 t))) (iblk m c 5 t) 2 (Nat.le_refl _)) := by
  unfold outsAt0
  dsimp only
  unfold out0_A_7
  rw [View.read_writes_eq_canon _ _ _ (cover0_A_7 c _ _ _ _ _ _ _ _ _ _ _ _ _ _ _ _ _ _ _ _ _ _ _ _ _ _ _ _ _)]
  unfold kernelRun0_A
  dsimp only
  refine congrArg View.canon (Eq.trans (b := kPieces
    (kernelRun0_A.sl.v1399 c (ms0_0 t) (hs0_0 t) (ms0_1 t) (hs0_1 t) (ms0_4 t) (hs0_4 t) (ms0_9 t) (iblk m c 0 t) (iblk m c 1 t) (iblk m c 4 t))
    (kernelRun0_A.sl.v691 c (ms0_0 t) (hs0_0 t) (ms0_1 t) (hs0_1 t) (iblk m c 0 t) (iblk m c 1 t))
    (kernelRun0_A.sl.v1391 c (ms0_2 t) (hs0_2 t) (ms0_3 t) (hs0_3 t) (iblk m c 2 t) (iblk m c 3 t))
    (kernelRun0_A.sl.v1395 c (ms0_2 t) (hs0_2 t) (ms0_3 t) (hs0_3 t) (iblk m c 2 t) (iblk m c 3 t))
    ((ms0_5 t).view.read (Elt F) ((hs0_5 t).unread (iblk m c 5 t))) 2 (Nat.le_refl _)) (by sl_kernel_rfl) ?_)
  rw [acc_words, scale_words, word_cos, word_sin, (hs0_5 t).read_unread, (hs0_2 t).read_unread, (hs0_3 t).read_unread]

/-- The values a point leaves. -/
theorem out8_eq (c : Dev nD) (t : Fin cfg0.N) :
    (outsAt0 m c t).2.2.1 = View.canon (vPieces (accV (iblk m c 0 t) (iblk m c 1 t) (iblk m c 4 t)) (scaleOf (bV (iblk m c 0 t) (iblk m c 1 t)))
      (iblk m c 5 t) 2 (Nat.le_refl _)) := by
  unfold outsAt0
  dsimp only
  unfold out0_A_8
  rw [View.read_writes_eq_canon _ _ _ (cover0_A_8 c _ _ _ _ _ _ _ _ _ _ _ _ _ _ _ _ _ _ _ _ _ _ _ _ _ _ _ _ _)]
  unfold kernelRun0_A
  dsimp only
  refine congrArg View.canon (Eq.trans (b := vPieces
    (kernelRun0_A.sl.v1399 c (ms0_0 t) (hs0_0 t) (ms0_1 t) (hs0_1 t) (ms0_4 t) (hs0_4 t) (ms0_9 t) (iblk m c 0 t) (iblk m c 1 t) (iblk m c 4 t))
    (kernelRun0_A.sl.v691 c (ms0_0 t) (hs0_0 t) (ms0_1 t) (hs0_1 t) (iblk m c 0 t) (iblk m c 1 t))
    ((ms0_5 t).view.read (Elt F) ((hs0_5 t).unread (iblk m c 5 t))) 2 (Nat.le_refl _)) (by sl_kernel_rfl) ?_)
  rw [acc_words, scale_words, (hs0_5 t).read_unread]

/-- The codes a point leaves. -/
theorem out9_eq (c : Dev nD) (t : Fin cfg0.N) :
    (outsAt0 m c t).2.2.2.1 = View.canon (codesV (iblk m c 0 t) (iblk m c 1 t)) := by
  unfold outsAt0
  dsimp only
  unfold out0_A_9
  rw [View.read_writes_eq_canon _ _ _ (cover0_A_9 c _ _ _ _ _ _ _ _ _ _ _ _ _ _ _ _ _ _ _ _ _ _ _ _ _ _ _ _ _)]
  unfold kernelRun0_A
  dsimp only
  exact congrArg View.canon (Eq.trans (b := kernelRun0_A.sl.H9_40 c (ms0_0 t) (hs0_0 t) (ms0_1 t) (hs0_1 t) (iblk m c 0 t) (iblk m c 1 t))
    (by sl_kernel_rfl) (codes_words m c t))

/-- The scales a point leaves. -/
theorem out10_eq (c : Dev nD) (t : Fin cfg0.N) :
    (outsAt0 m c t).2.2.2.2 = scaleRow (scaleOf (bV (iblk m c 0 t) (iblk m c 1 t))) := by
  unfold outsAt0
  dsimp only
  unfold out0_A_10
  rw [View.read_writes_eq_canon _ _ _ (cover0_A_10 c _ _ _ _ _ _ _ _ _ _ _ _ _ _ _ _ _ _ _ _ _ _ _ _ _ _ _ _ _)]
  unfold kernelRun0_A
  dsimp only
  refine (congrArg View.canon (Eq.trans (b := [⟨Rect.unit (s := S1x1x256) ![0, 0, 0] S1x1x256.size inb_S1x1x256_S1x1x256_0_0_0,
    scaleRow (kernelRun0_A.sl.v691 c (ms0_0 t) (hs0_0 t) (ms0_1 t) (hs0_1 t) (iblk m c 0 t) (iblk m c 1 t))⟩])
    (by sl_kernel_rfl) rfl)).trans ?_
  rw [scale_words]
  exact View.canon_cons_unit_lit' _ _ _ (by decide)

end Cert.KernelIdeal.Block

end

end
-- ==== Proof.Scale.lean ====
/- The quantiser's scale of one row at the ideal numbers, on scalars: the search for the exponent field finds the power
   of two below its argument, and the powers of two it then makes are those of the exponent `floor (log t / log 2) + 1`,
   with the range of the 32-bit format. -/
module

public import Idealize.ShloMosaic.Lib.Pipeline.Value
public import Idealize.ShloMosaic.Lib.Pointwise

@[expose] public section

set_option maxRecDepth 16384

noncomputable section

namespace Cert.Scale

open Idealize.ShloMosaic

/-! ### The two ways of making the scale -/

/-- The number whose exponent field is `n` and whose fraction is zero. -/
def pw (n : Nat) : EReal :=
  if n = 0 then 0 else if n = 255 then ⊤ else (((2 : ℝ) ^ ((n : ℤ) - 127) : ℝ) : EReal)

/-- One step of the search: `bit` is kept where the power of two it gives is not above `t`. -/
def stepW (t : EReal) (bit r : BitVec 32) : BitVec 32 :=
  if Ideal.ofBits .f32 (IntOp.shli .vector (IntOp.ori r bit) 23#32) ≤ t then IntOp.ori r bit else r

/-- The search: eight steps, the highest bit first. -/
def searchW (t : EReal) : BitVec 32 :=
  stepW t 1#32 (stepW t 2#32 (stepW t 4#32 (stepW t 8#32 (stepW t 16#32 (stepW t 32#32 (stepW t 64#32
    (stepW t 128#32 0#32)))))))

/-- The scale the search's field gives. -/
def scaleW (b : BitVec 32) : EReal :=
  Ideal.ofBits .f32 (IntOp.shli .vector (Scalar.select (IntOp.andi (IntOp.cmpi .ne b 0#32) (IntOp.cmpi .ne b 255#32))
    (IntOp.addi b 1#32) 127#32) 23#32)

/-- The inverse scale the search's field gives. -/
def invW (b : BitVec 32) : EReal :=
  Ideal.ofBits .f32 (IntOp.shli .vector (Scalar.select (IntOp.andi (IntOp.cmpi .ne b 0#32) (IntOp.cmpi .ne b 255#32))
    (IntOp.maxsi (IntOp.subi 253#32 b) 0#32) 127#32) 23#32)

/-- The exponent of `t` as a number: `floor (log t / log 2) + 1` where `t` is normal and finite, else zero. -/
def expo (t : EReal) : EReal :=
  Scalar.select (IntOp.andi (BitVec.ofBool (decide (Ideal.ofBits FTy.f32 8388608#32 ≤ t)))
      (BitVec.ofBool (decide (t < Ideal.ofBits FTy.f32 2139095040#32))))
    (Ideal.liftRound Int.floor (Ideal.div (Ideal.log t) (Ideal.log (Ideal.ofBits FTy.f32 1073741824#32))) + 1) 0

/-- Two to the power `e` in the format's range: infinity above it, zero below. -/
def ldexp1 (e : EReal) : EReal :=
  if Ideal.ofBits FTy.f32 1123942400#32 < e then Ideal.ofBits FTy.f32 2139095040#32
  else if e < Ideal.ofBits FTy.f32 3271294976#32 then 0 else Ideal.exp2 e

/-! ### The constants -/

theorem c_top : Ideal.ofBits FTy.f32 2139095040#32 = ⊤ := by
  simp [Ideal.ofBits, Ideal.ieee]
theorem c_two : Ideal.ofBits FTy.f32 1073741824#32 = ((2 : ℝ) : EReal) := by
  simp [Ideal.ofBits, Ideal.ieee, -EReal.coe_mul]; norm_num
theorem c_127 : Ideal.ofBits FTy.f32 1123942400#32 = ((127 : ℝ) : EReal) := by
  simp [Ideal.ofBits, Ideal.ieee, -EReal.coe_mul]; norm_num
theorem c_m126 : Ideal.ofBits FTy.f32 3271294976#32 = ((-126 : ℝ) : EReal) := by
  simp [Ideal.ofBits, Ideal.ieee, -EReal.coe_mul, -EReal.coe_neg]; norm_num

theorem field_bits : ∀ n : Fin 256,
    ((IntOp.shli .vector (BitVec.ofNat 32 n.val) 23#32).extractLsb' 31 1 == 1#1) = false ∧
    ((IntOp.shli .vector (BitVec.ofNat 32 n.val) 23#32).extractLsb' 23 8).toNat = n.val ∧
    ((IntOp.shli .vector (BitVec.ofNat 32 n.val) 23#32).extractLsb' 0 23).toNat = 0 := by
  decide +kernel

/-- A word whose exponent field is `n` is `pw n`. -/
theorem ofBits_pw (n : Nat) (h : n ≤ 255) :
    Ideal.ofBits .f32 (IntOp.shli .vector (BitVec.ofNat 32 n) 23#32) = pw n := by
  obtain ⟨h1, h2, h3⟩ := field_bits ⟨n, by omega⟩
  simp only at h1 h2 h3
  simp only [Ideal.ofBits, Ideal.ieee, Nat.reduceAdd, h1, h2, h3, pw]
  by_cases h0 : n = 0
  · subst h0; simp
  · by_cases h5 : n = 255
    · subst h5; simp
    · simp only [h0, h5, Nat.reducePow, Nat.reduceSub, if_false, Bool.false_eq_true]
      have e : (2 : ℝ) ^ ((n : ℤ) - 127) = 2 ^ (23 : ℤ) * (2 : ℝ) ^ ((n : ℤ) - 127 - 23) := by
        rw [← zpow_add₀ (by norm_num : (2 : ℝ) ≠ 0)]; ring_nf
      rw [EReal.coe_eq_coe_iff, e]; norm_num

theorem c_min : Ideal.ofBits FTy.f32 8388608#32 = pw 1 := ofBits_pw 1 (by omega)

/-! ### The search -/

theorem ori_bit : ∀ k : Fin 8, ∀ n : Fin 256, n.val % 2 ^ (k.val + 1) = 0 →
    IntOp.ori (BitVec.ofNat 32 n.val) (BitVec.ofNat 32 (2 ^ k.val)) = BitVec.ofNat 32 (n.val + 2 ^ k.val) := by
  decide +kernel

/-- What holds before the step of bit `k - 1`: the field lies in `n … n + 2 ^ k - 1`. -/
def Within (t : EReal) (k : Nat) (w : BitVec 32) : Prop :=
  ∃ n : Nat, w = BitVec.ofNat 32 n ∧ n % 2 ^ k = 0 ∧ n + 2 ^ k ≤ 256 ∧ pw n ≤ t ∧ (n + 2 ^ k ≤ 255 → t < pw (n + 2 ^ k))

/-- A step halves the interval. -/
theorem Within.step {t : EReal} {k : Nat} {w : BitVec 32} (hk : k < 8) (h : Within t (k + 1) w) :
    Within t k (stepW t (BitVec.ofNat 32 (2 ^ k)) w) := by
  obtain ⟨n, rfl, hm, hn, hl, hu⟩ := h
  have hp : 2 ^ (k + 1) = 2 * 2 ^ k := by rw [pow_succ, Nat.mul_comm]
  have hpos : 0 < 2 ^ k := Nat.pos_of_ne_zero (by positivity)
  have ho := ori_bit ⟨k, hk⟩ ⟨n, by omega⟩ hm
  simp only at ho
  have hm' : n % 2 ^ k = 0 := Nat.mod_eq_zero_of_dvd (dvd_trans ⟨2, by omega⟩ (Nat.dvd_of_mod_eq_zero hm))
  rw [stepW, ho, ofBits_pw _ (by omega)]
  split
  · rename_i hc
    refine ⟨n + 2 ^ k, rfl, by simp [hm'], by omega, hc, fun h => ?_⟩
    rw [show n + 2 ^ k + 2 ^ k = n + 2 ^ (k + 1) by omega] at h ⊢
    exact hu h
  · rename_i hc
    exact ⟨n, rfl, hm', by omega, hl, fun _ => not_le.mp hc⟩

/-- The search finds the field of a number that is not negative. -/
theorem search_spec {t : EReal} (ht : 0 ≤ t) :
    ∃ n : Nat, searchW t = BitVec.ofNat 32 n ∧ n ≤ 255 ∧ pw n ≤ t ∧ (n < 255 → t < pw (n + 1)) := by
  have h0 : Within t 8 0#32 := ⟨0, rfl, rfl, by norm_num, by simpa [pw] using ht, by norm_num⟩
  obtain ⟨n, e, -, hn, hl, hu⟩ := (((((((h0.step (k := 7) (by omega)).step (k := 6) (by omega)).step (k := 5) (by omega)).step
    (k := 4) (by omega)).step (k := 3) (by omega)).step (k := 2) (by omega)).step (k := 1) (by omega)).step (k := 0) (by omega)
  exact ⟨n, e, by omega, hl, fun h => hu (by omega)⟩

theorem scale_field : ∀ n : Fin 256,
    Scalar.select (IntOp.andi (IntOp.cmpi .ne (BitVec.ofNat 32 n.val) 0#32) (IntOp.cmpi .ne (BitVec.ofNat 32 n.val) 255#32))
      (IntOp.addi (BitVec.ofNat 32 n.val) 1#32) 127#32 = BitVec.ofNat 32 (if n.val = 0 ∨ n.val = 255 then 127 else n.val + 1) := by
  decide +kernel

theorem inv_field : ∀ n : Fin 256,
    Scalar.select (IntOp.andi (IntOp.cmpi .ne (BitVec.ofNat 32 n.val) 0#32) (IntOp.cmpi .ne (BitVec.ofNat 32 n.val) 255#32))
      (IntOp.maxsi (IntOp.subi 253#32 (BitVec.ofNat 32 n.val)) 0#32) 127#32
        = BitVec.ofNat 32 (if n.val = 0 ∨ n.val = 255 then 127 else 253 - n.val) := by
  decide +kernel

theorem scaleW_ofNat (n : Nat) (h : n ≤ 255) :
    scaleW (BitVec.ofNat 32 n) = pw (if n = 0 ∨ n = 255 then 127 else n + 1) := by
  have := scale_field ⟨n, by omega⟩
  simp only at this
  rw [scaleW, this, ofBits_pw]
  split <;> omega

theorem invW_ofNat (n : Nat) (h : n ≤ 255) :
    invW (BitVec.ofNat 32 n) = pw (if n = 0 ∨ n = 255 then 127 else 253 - n) := by
  have := inv_field ⟨n, by omega⟩
  simp only at this
  rw [invW, this, ofBits_pw]
  split <;> omega

/-! ### The exponent -/

/-- The exponent of a number of field `n`: `n - 126`, at least 128 in the last binade, zero outside the normal numbers. -/
theorem expo_spec {t : EReal} {n : Nat} (hn : n ≤ 255) (hl : pw n ≤ t) (hu : n < 255 → t < pw (n + 1)) :
    ∃ z : ℤ, expo t = ((z : ℝ) : EReal) ∧ ((n = 0 ∨ n = 255) → z = 0) ∧ (1 ≤ n → n ≤ 253 → z = (n : ℤ) - 126) ∧
      (n = 254 → 128 ≤ z) := by
  by_cases h0 : n = 0
  · subst h0
    have h1 : ¬ pw 1 ≤ t := not_le.mpr (hu (by omega))
    exact ⟨0, by simp [expo, c_min, h1, IntOp.andi, Scalar.select], by simp, by omega, by omega⟩
  by_cases h5 : n = 255
  · subst h5
    have h1 : ¬ t < ⊤ := by simpa [pw] using hl
    exact ⟨0, by simp [expo, c_top, h1, IntOp.andi, Scalar.select], by simp, by omega, by omega⟩
  have hpn : pw n = (((2 : ℝ) ^ ((n : ℤ) - 127) : ℝ) : EReal) := by simp [pw, h0, h5]
  have htop : t < ⊤ := lt_of_lt_of_le (hu (by omega)) le_top
  rw [hpn] at hl
  have hbot : t ≠ ⊥ := fun h => by simp [h] at hl
  lift t to ℝ using ⟨htop.ne, hbot⟩ with r
  have hr : (2 : ℝ) ^ ((n : ℤ) - 127) ≤ r := by exact_mod_cast hl
  have hr0 : 0 < r := lt_of_lt_of_le (by positivity) hr
  have h1 : pw 1 ≤ (r : EReal) := by
    rw [pw]; simp only [one_ne_zero, if_false, show ¬ (1 = 255) by omega, EReal.coe_le_coe_iff]
    refine le_trans (zpow_le_zpow_right₀ (by norm_num) ?_) hr
    push_cast; omega
  have hlog2 : 0 < Real.log 2 := Real.log_pos (by norm_num)
  have hz : expo (r : EReal) = (((⌊Real.log r / Real.log 2⌋ + 1 : ℤ) : ℝ) : EReal) := by
    have l1 : Ideal.log (r : EReal) = ((Real.log r : ℝ) : EReal) := if_neg (not_le.mpr hr0)
    have l2 : Ideal.log ((2 : ℝ) : EReal) = ((Real.log 2 : ℝ) : EReal) := if_neg (by norm_num)
    have q : Ideal.div ((Real.log r : ℝ) : EReal) ((Real.log 2 : ℝ) : EReal) = ((Real.log r / Real.log 2 : ℝ) : EReal) := by
      rw [Ideal.div_coe hlog2.ne', ← EReal.coe_mul]; congr 1; ring
    have f : Ideal.liftRound Int.floor ((Real.log r / Real.log 2 : ℝ) : EReal)
      = ((⌊Real.log r / Real.log 2⌋ : ℝ) : EReal) := rfl
    rw [expo, c_min, c_top, c_two, l1, l2, q, f]
    simp [h1, IntOp.andi, Scalar.select]
  have hlow : ((n : ℤ) - 127) ≤ ⌊Real.log r / Real.log 2⌋ := by
    rw [Int.le_floor, le_div_iff₀ hlog2, ← Real.log_zpow]
    exact Real.log_le_log (by positivity) hr
  refine ⟨_, hz, by omega, fun _ h3 => ?_, fun h4 => by omega⟩
  have hur := hu (by omega)
  have hpn1 : pw (n + 1) = (((2 : ℝ) ^ ((n : ℤ) - 126) : ℝ) : EReal) := by
    simp only [pw, show n + 1 ≠ 0 by omega, show n + 1 ≠ 255 by omega, if_false]
    congr 2; push_cast; ring
  rw [hpn1] at hur
  have hur' : r < (2 : ℝ) ^ ((n : ℤ) - 126) := by exact_mod_cast hur
  have hup : ⌊Real.log r / Real.log 2⌋ < (n : ℤ) - 126 := by
    rw [Int.floor_lt, div_lt_iff₀ hlog2, ← Real.log_zpow]
    exact Real.log_lt_log hr0 hur'
  omega

/-- Two to a whole power, as the reference makes it. -/
theorem ldexp1_int (z : ℤ) : ldexp1 ((z : ℝ) : EReal)
    = if 127 < z then ⊤ else if z < -126 then 0 else (((2 : ℝ) ^ z : ℝ) : EReal) := by
  have e : Ideal.exp2 ((z : ℝ) : EReal) = (((2 : ℝ) ^ z : ℝ) : EReal) := by
    show ((Real.rpow 2 (z : ℝ) : ℝ) : EReal) = _
    congr 1; exact Real.rpow_intCast 2 z
  rw [ldexp1, c_127, c_m126, c_top, e]
  simp only [EReal.coe_lt_coe_iff]
  norm_cast

/-- The kernel's scale is the reference's. -/
theorem scale_eq {t : EReal} (ht : 0 ≤ t) : scaleW (searchW t) = ldexp1 (expo t) := by
  obtain ⟨n, e, hn, hl, hu⟩ := search_spec ht
  obtain ⟨z, ez, h0, h1, h4⟩ := expo_spec hn hl hu
  rw [e, scaleW_ofNat n hn, ez, ldexp1_int]
  by_cases hc : n = 0 ∨ n = 255
  · simp [h0 hc, hc, pw]
  · by_cases h254 : n = 254
    · simp [h254, pw, show 127 < z by have := h4 h254; omega]
    · have hz := h1 (by omega) (by omega)
      rw [if_neg hc, if_neg (by omega), if_neg (by omega), pw, if_neg (by omega), if_neg (by omega), hz]
      congr 2; push_cast; ring

/-- The kernel's inverse scale is the reference's. -/
theorem inv_eq {t : EReal} (ht : 0 ≤ t) : invW (searchW t) = ldexp1 (0 - expo t) := by
  obtain ⟨n, e, hn, hl, hu⟩ := search_spec ht
  obtain ⟨z, ez, h0, h1, h4⟩ := expo_spec hn hl hu
  have en : (0 : EReal) - ((z : ℝ) : EReal) = (((-z : ℤ) : ℝ) : EReal) := by
    push_cast; rw [zero_sub]
  rw [e, invW_ofNat n hn, ez, en, ldexp1_int]
  by_cases hc : n = 0 ∨ n = 255
  · simp [h0 hc, hc, pw]
  · by_cases h253 : n = 253
    · have hz := h1 (by omega) (by omega)
      rw [if_neg hc, if_neg (by omega), if_pos (by omega), h253]; simp [pw]
    by_cases h254 : n = 254
    · have := h4 h254
      rw [if_neg hc, if_neg (by omega), if_pos (by omega), h254]; simp [pw]
    · have hz := h1 (by omega) (by omega)
      rw [if_neg hc, if_neg (by omega), if_neg (by omega), pw, if_neg (by omega), if_neg (by omega), hz]
      congr 2; omega

end Cert.Scale

end

end
-- ==== Proof.Spec.lean ====
/- The layer on one row, as sums, maxima and products of extended reals: what both programs are proved to compute. `X` is
   the row of activations, `g` the gain, `W` the projection, `ws` its scales, `ang` the angles of the row's position. -/
module

public import proofs.«01_k».proof.Proof.Scale

@[expose] public section

noncomputable section

namespace Cert.Spec

open Idealize.ShloMosaic Cert.Scale

/-- The reciprocal root of the mean square plus eps. -/
def rsS (X : Fin 5120 → EReal) : EReal :=
  Ideal.rsqrt ((∑ k, X k * X k) * ((1 / 5120 : ℝ) : EReal) + Ideal.ofBits FTy.f32 897988541#32)

/-- The normalised row with its gain. -/
def hS (X g : Fin 5120 → EReal) (k : Fin 5120) : EReal := X k * rsS X * g k

/-- The largest magnitude of the normalised row. -/
def amS (X g : Fin 5120 → EReal) : EReal :=
  Finset.fold max ⊥ (fun k => max (hS X g k) (-hS X g k)) Finset.univ

/-- The largest magnitude times the float 1/448. -/
def tS (X g : Fin 5120 → EReal) : EReal := amS X g * Ideal.ofBits FTy.f32 991054117#32

/-- The row's scale, a power of two. -/
def scS (X g : Fin 5120 → EReal) : EReal := ldexp1 (expo (tS X g))

/-- The inverse of the row's scale. -/
def invS (X g : Fin 5120 → EReal) : EReal := ldexp1 (0 - expo (tS X g))

/-- The code of one element: scaled and clipped to the range of the 8-bit format. -/
def codeS (X g : Fin 5120 → EReal) (k : Fin 5120) : EReal :=
  min (Ideal.ofBits FTy.f32 1138753536#32) (max (Ideal.ofBits FTy.f32 3286237184#32) (hS X g k * invS X g))

/-- The projection of the codes. -/
def accS (X g : Fin 5120 → EReal) (W : Fin 5120 → Fin 1792 → EReal) (n : Fin 1792) : EReal :=
  ∑ k, codeS X g k * W k n

/-- The projection with the two scales. -/
def yS (X g : Fin 5120 → EReal) (W : Fin 5120 → Fin 1792 → EReal) (ws : Fin 1792 → EReal) (n : Fin 1792) : EReal :=
  accS X g W n * scS X g * ws n

/-- Head `h` of a projected row. -/
def headS (y : Fin 1792 → EReal) (h : Fin 14) (l : Fin 128) : EReal := y ⟨128 * h.val + l.val, by omega⟩

/-- The rotation of one head by the angles of its position: the two halves of the lanes are the coordinates. -/
def rotS (v : Fin 128 → EReal) (ang : Fin 64 → EReal) (l : Fin 128) : EReal :=
  if h : l.val < 64 then
    v l * Ideal.cos (ang ⟨l.val, h⟩) - v ⟨l.val + 64, by omega⟩ * Ideal.sin (ang ⟨l.val, h⟩)
  else
    v l * Ideal.cos (ang ⟨l.val - 64, by omega⟩) + v ⟨l.val - 64, by omega⟩ * Ideal.sin (ang ⟨l.val - 64, by omega⟩)

/-- The inverse frequencies. -/
def freqS (f : Fin 64) : EReal :=
  Ideal.pow (Ideal.ofBits FTy.f32 1176256512#32)
    (Ideal.div (-(Ideal.ofBits FTy.f32 1073741824#32 * FloatOps.sitofp (F := Ideal) FTy.f32 (BitVec.ofNat 32 f.val)))
      (Ideal.ofBits FTy.f32 1124073472#32))

/-- The angles of a position. -/
def angS (pos : BitVec 32) (f : Fin 64) : EReal := freqS f * FloatOps.sitofp (F := Ideal) FTy.f32 pos

/-- The scaled maximum is not negative. -/
theorem tS_nonneg (X g : Fin 5120 → EReal) : 0 ≤ tS X g := by
  have h1 : (0 : EReal) ≤ amS X g := by
    refine le_trans ?_ ((Finset.fold_max_le (c := amS X g)).mp le_rfl |>.2 0 (Finset.mem_univ _))
    rcases le_total 0 (hS X g 0) with h | h
    · exact le_max_of_le_left h
    · exact le_max_of_le_right (by simpa using EReal.neg_le_neg_iff.mpr h)
  have h2 : (0 : EReal) ≤ Ideal.ofBits FTy.f32 991054117#32 := by
    simp [Ideal.ofBits, Ideal.ieee, -EReal.coe_mul]
  exact mul_nonneg h1 h2

end Cert.Spec

end

end
-- ==== Proof.BlockIdeal.lean ====
/- What one grid point computes at the ideal numbers, row by row: the chunked loops of `Block` are the sums, maxima and
   products of `Spec` on the block's rows. -/
module

public import proofs.«01_k».proof.Proof.Block
public import proofs.«01_k».proof.Proof.Spec
public import Idealize.ShloMosaic.Lib.Pipeline.ValueKit
public import Idealize.ShloMosaic.Lib.Pointwise

@[expose] public section

set_option maxRecDepth 16384

noncomputable section

namespace Cert.KernelIdeal.Block

open Cert.KernelIdeal Cert.KernelIdeal.Gen Idealize.ShloMosaic Idealize.ShloMosaic.TcCoe Idealize.SL.Sem
open Idealize.ShloMosaic.Tactic Cert.Scale Cert.Spec

/-- Row `r` of a block of activations. -/
def rowX (x0 : Vec Ideal S1x256x5120 .bf16) (r : Fin 256) (k : Fin 5120) : EReal := x0 (ix3 0 r k)
/-- The gain as a row. -/
def rowG (x1 : Vec Ideal S1x5120 .f32) (k : Fin 5120) : EReal := x1 (ix2 0 k)
/-- The projection's weights. -/
def matW (x4 : Vec Ideal S5120x1792 .fp8e4m3) (k : Fin 5120) (n : Fin 1792) : EReal := x4 (ix2 k n)
/-- The projection's scales as a row. -/
def rowW (x5 : Vec Ideal S1x1792 .f32) (n : Fin 1792) : EReal := x5 (ix2 0 n)
/-- The angles of row `r`'s position. -/
def rowA (x2 : Vec Ideal S1x1x256 .i32) (x3 : Vec Ideal S64x1 .f32) (r : Fin 256) (f : Fin 64) : EReal :=
  x3 (ix2 f 0) * FloatOps.sitofp (F := Ideal) .f32 (x2 (ix3 0 0 r) : BitVec 32)

/-- Lane `l` of chunk `k` in a row. -/
abbrev at40 (k : Fin 40) (l : Fin 128) : Fin 5120 := ⟨128 * k.val + l.val, by omega⟩

section
variable (x0 : Vec Ideal S1x256x5120 .bf16) (x1 : Vec Ideal S1x5120 .f32) (r : Fin 256) (l : Fin 128)

theorem xF_at (k : Fin 40) : xF (xCh x0 k) (ix2 r l) = rowX x0 r (at40 k l) := by
  have e : xF (xCh x0 k) (ix2 r l) = xCh x0 k (ix3 0 r l) := by pointwise [xF]
  rw [e]
  exact View.ld_unit_apply_of x0 _ _ _ (ix3 0 r l) (ix3 0 r (at40 k l)) (fun a => by fin_cases a <;> simp [ix3])

theorem gF_at (k : Fin 40) : gF (gCh x1 k) (ix2 r l) = rowG x1 (at40 k l) := by
  have e : gF (gCh x1 k) (ix2 r l) = gCh x1 k (ix2 0 l) := by pointwise [gF]
  rw [e]
  exact View.ld_unit_apply_of x1 _ _ _ (ix2 0 l) (ix2 0 (at40 k l)) (fun a => by fin_cases a <;> simp [ix2])

theorem wF_at (x5 : Vec Ideal S1x1792 .f32) (h : Fin 14) :
    gF (wCh x5 h) (ix2 r l) = rowW x5 ⟨128 * h.val + l.val, by omega⟩ := by
  have e : gF (wCh x5 h) (ix2 r l) = wCh x5 h (ix2 0 l) := by pointwise [gF]
  rw [e]
  exact View.ld_unit_apply_of x5 _ _ _ (ix2 0 l) (ix2 0 ⟨128 * h.val + l.val, by omega⟩) (fun a => by fin_cases a <;> simp [ix2])

/-- A sum over a row, chunk by chunk. -/
theorem sum_chunks (f : Fin 5120 → EReal) : ∑ l : Fin 128, ∑ k : Fin 40, f (at40 k l) = ∑ j, f j := by
  rw [Finset.sum_comm, ← Fintype.sum_prod_type']
  refine Fintype.sum_equiv (finProdFinEquiv (m := 40) (n := 128)) _ _ (fun p => ?_)
  congr 1; apply Fin.ext
  simp [finProdFinEquiv, Nat.add_comm]

/-- The lane sums after `n` chunks. -/
theorem ssV_at : ∀ (n : Nat) (hn : n ≤ 40), ssV x0 n hn (ix2 r l)
    = ∑ k : Fin n, rowX x0 r (at40 ⟨k.val, by omega⟩ l) * rowX x0 r (at40 ⟨k.val, by omega⟩ l)
  | 0, _ => by
    have : ssV x0 0 (by omega) (ix2 r l) = 0 := by pointwise [ssV]
    simpa using this
  | n + 1, hn => by
    rw [Fin.sum_univ_castSucc]
    show ssV x0 n (Nat.le_of_succ_le hn) (ix2 r l) + xF (xCh x0 ⟨n, hn⟩) (ix2 r l) * xF (xCh x0 ⟨n, hn⟩) (ix2 r l) = _
    rw [ssV_at n, xF_at]; rfl

/-- The named constant is the reciprocal of the row's length. -/
theorem inv_n : Named.named (F := Ideal) (φ := .f32) κ "inv_n" 961334477#32 = ((1 / 5120 : ℝ) : EReal) :=
  IdealRules.named_const.ideal_named_scalar _ _ _ _ rfl

/-- The reciprocal root of a row. -/
theorem rsV_at : rsV x0 (ix2 r l) = rsS (rowX x0 r) := by
  have e : rsV x0 (ix2 r l) = Ideal.rsqrt ((∑ x, ssV x0 40 (Nat.le_refl _) (ix2 r x)) * Named.named (F := Ideal) (φ := .f32) κ "inv_n" 961334477#32
      + Ideal.ofBits .f32 897988541#32) := by pointwise [rsV]
  rw [e, rsS, inv_n, ← sum_chunks]
  simp only [ssV_at]

/-- The normalised row at a lane of a chunk. -/
theorem hOf_at (k : Fin 40) : hOf x0 x1 (rsV x0) k (ix2 r l) = hS (rowX x0 r) (rowG x1) (at40 k l) := by
  show xF (xCh x0 k) (ix2 r l) * rsV x0 (ix2 r l) * gF (gCh x1 k) (ix2 r l) = _
  rw [xF_at, rsV_at, gF_at]; rfl

/-- The lane maxima after `n` chunks, by their upper bounds. -/
theorem amOf_le (a : EReal) : ∀ (n : Nat) (hn : n ≤ 40), amOf x0 x1 (rsV x0) n hn (ix2 r l) ≤ a ↔
    0 ≤ a ∧ ∀ k : Fin 40, k.val < n → max (hS (rowX x0 r) (rowG x1) (at40 k l)) (-hS (rowX x0 r) (rowG x1) (at40 k l)) ≤ a
  | 0, _ => by
    have : amOf x0 x1 (rsV x0) 0 (by omega) (ix2 r l) = 0 := by pointwise [amOf]
    rw [this]; simp
  | n + 1, hn => by
    have e : amOf x0 x1 (rsV x0) (n + 1) hn (ix2 r l) = max (amOf x0 x1 (rsV x0) n (Nat.le_of_succ_le hn) (ix2 r l))
      (max (hOf x0 x1 (rsV x0) ⟨n, hn⟩ (ix2 r l)) (-hOf x0 x1 (rsV x0) ⟨n, hn⟩ (ix2 r l))) := rfl
    rw [e, max_le_iff, amOf_le a n, hOf_at, and_assoc]
    refine and_congr_right fun _ => ⟨fun ⟨h1, h2⟩ k hk => ?_, fun h => ⟨fun k hk => h k (by omega), h ⟨n, hn⟩ (by simp)⟩⟩
    rcases Nat.lt_succ_iff_lt_or_eq.mp hk with h | h
    · exact h1 k h
    · obtain rfl : k = ⟨n, hn⟩ := Fin.ext h
      exact h2

/-- The scaled maximum of a row. -/
theorem tOf_at : tOf (amOf x0 x1 (rsV x0) 40 (Nat.le_refl _)) (ix2 r l) = tS (rowX x0 r) (rowG x1) := by
  have e : tOf (amOf x0 x1 (rsV x0) 40 (Nat.le_refl _)) (ix2 r l)
      = Finset.fold max (Ideal.ofBits .f32 4286578688#32) (fun x => amOf x0 x1 (rsV x0) 40 (Nat.le_refl _) (ix2 r x)) Finset.univ
        * Ideal.ofBits .f32 991054117#32 := by pointwise [tOf]
  have hb : Ideal.ofBits .f32 4286578688#32 = ⊥ := by simp [Ideal.ofBits, Ideal.ieee]
  rw [e, hb]
  refine congrArg (fun v : EReal => v * Ideal.ofBits .f32 991054117#32) (?_ : _ = amS (rowX x0 r) (rowG x1))
  refine eq_of_forall_ge_iff fun a => ?_
  rw [amS, Finset.fold_max_le, Finset.fold_max_le]
  simp only [bot_le, true_and, Finset.mem_univ, forall_true_left, amOf_le]
  constructor
  · intro h j
    have hj := (h ⟨j.val % 128, by omega⟩).2 ⟨j.val / 128, by omega⟩ (by simp; omega)
    have ej : at40 ⟨j.val / 128, by omega⟩ ⟨j.val % 128, by omega⟩ = j := Fin.ext (by simp; omega)
    rwa [ej] at hj
  · intro h x
    refine ⟨?_, fun k _ => h _⟩
    refine le_trans ?_ (h 0)
    rcases le_total 0 (hS (rowX x0 r) (rowG x1) 0) with h | h
    · exact le_max_of_le_left h
    · exact le_max_of_le_right (by simpa using EReal.neg_le_neg_iff.mpr h)

theorem stepV_at (t : FVec Ideal S256x128 .f32) (bit : BitVec 32) (v : IVec S256x128 32) :
    stepV t bit v (ix2 r l) = stepW (t (ix2 r l)) bit (v (ix2 r l)) := by
  pointwise [stepV]
  rfl

/-- The exponent field of a row. -/
theorem bV_at : bV x0 x1 (ix2 r l) = searchW (tS (rowX x0 r) (rowG x1)) := by
  rw [bV, biasedV]
  simp only [stepV_at, tOf_at]
  rfl

/-- The scale of a row. -/
theorem scale_at : scaleOf (F := Ideal) (bV x0 x1) (ix2 r l) = scS (rowX x0 r) (rowG x1) := by
  have e : scaleOf (F := Ideal) (bV x0 x1) (ix2 r l) = scaleW (bV x0 x1 (ix2 r l)) := by
    pointwise [scaleOf, plainV]
    rfl
  rw [e, bV_at, scale_eq (tS_nonneg _ _)]; rfl

/-- The inverse scale of a row. -/
theorem inv_at : invOf (F := Ideal) (bV x0 x1) (ix2 r l) = invS (rowX x0 r) (rowG x1) := by
  have e : invOf (F := Ideal) (bV x0 x1) (ix2 r l) = invW (bV x0 x1 (ix2 r l)) := by
    pointwise [invOf, plainV]
    rfl
  rw [e, bV_at, inv_eq (tS_nonneg _ _)]; rfl

/-- A chunk of the codes at a lane. -/
theorem codeOf_at (k : Fin 40) : codeOf x0 x1 (rsV x0) (invOf (bV x0 x1)) k (ix3 0 r l)
    = codeS (rowX x0 r) (rowG x1) (at40 k l) := by
  have e : codeOf x0 x1 (rsV x0) (invOf (bV x0 x1)) k (ix3 0 r l) = min (Ideal.ofBits FTy.f32 1138753536#32)
      (max (Ideal.ofBits FTy.f32 3286237184#32) (hOf x0 x1 (rsV x0) k (ix2 r l) * invOf (bV x0 x1) (ix2 r l))) := by
    pointwise [codeOf]
  rw [e, hOf_at, inv_at]; rfl

end

end Cert.KernelIdeal.Block

end

end
-- ==== Proof.Stored.lean ====
/- What one grid point leaves in its five blocks at the ideal numbers, element by element, from the rows of its input
   blocks. -/
module

public import proofs.«01_k».proof.Proof.BlockIdeal

@[expose] public section

set_option maxRecDepth 16384

noncomputable section

namespace Cert.KernelIdeal.Block

open Cert.KernelIdeal Cert.KernelIdeal.Gen Idealize.ShloMosaic Idealize.ShloMosaic.TcCoe Idealize.SL.Sem
open Idealize.ShloMosaic.Tactic Cert.Scale Cert.Spec

/-- The members of a list that a loop builds, one at each trip. -/
theorem mem_trips {α : Type} {N : Nat} (f : Fin N → α) (L : (n : Nat) → n ≤ N → List α) (h0 : ∀ h, L 0 h = [])
    (hs : ∀ n h, L (n + 1) h = f ⟨n, h⟩ :: L n (Nat.le_of_succ_le h)) (p : α) :
    ∀ (n : Nat) (h : n ≤ N), p ∈ L n h ↔ ∃ k : Fin N, k.val < n ∧ p = f k
  | 0, h => by simp [h0]
  | n + 1, h => by
    rw [hs, List.mem_cons, mem_trips f L h0 hs p n]
    constructor
    · rintro (e | ⟨k, hk, e⟩)
      · exact ⟨⟨n, h⟩, Nat.lt_succ_self n, e⟩
      · exact ⟨k, by omega, e⟩
    · rintro ⟨k, hk, e⟩
      rcases Nat.lt_succ_iff_lt_or_eq.mp hk with hk | hk
      · exact .inr ⟨k, hk, e⟩
      · obtain rfl : k = ⟨n, h⟩ := Fin.ext hk
        exact .inl e

/-! ### The codes -/

section codes
variable (x0 : Vec Ideal S1x256x5120 .bf16) (x1 : Vec Ideal S1x5120 .f32)

theorem emb_codes (k : Fin 40) (r : Fin 256) (l : Fin 128) :
    (Rect.unit (s := S1x256x5120) ![0, 0, 128 * k.val] S1x256x128.size (inbX k)).emb (ix3 0 r l : S1x256x128.Idx) = ix3 0 r (at40 k l) := by
  funext a; apply Fin.ext
  refine (Rect.idx_unit_val (s := S1x256x5120) ![0, 0, 128 * k.val] S1x256x128.size (inbX k) (ix3 0 r l : S1x256x128.Idx) a).trans ?_
  fin_cases a <;> simp [ix3]

/-- The block of codes. -/
theorem codes_at (r : Fin 256) (j : Fin 5120) :
    View.canon (codesV x0 x1) (ix3 0 r j) = codeS (rowX x0 r) (rowG x1) j := by
  have hm := fun p => mem_trips (fun k : Fin 40 => (⟨Rect.unit (s := S1x256x5120) ![0, 0, 128 * k.val] S1x256x128.size (inbX k),
      codeOf x0 x1 (rsV x0) (invOf (bV x0 x1)) k⟩ : View.Piece (Elt Ideal) S1x256x5120 .fp8e4m3))
    (codePieces x0 x1 (rsV x0) (invOf (bV x0 x1))) (fun _ => rfl) (fun _ _ => rfl) p 40 (Nat.le_refl _)
  refine View.canon_apply_of_pieces (Val := Elt Ideal) (e := .fp8e4m3) (fun i : S1x256x5120.Idx => codeS (rowX x0 (i 1)) (rowG x1) (i 2)) _ ?_ (ix3 0 r j) ?_
  · rintro p hp x
    obtain ⟨k, -, rfl⟩ := (hm p).mp hp
    obtain ⟨z, r', l, rfl⟩ : ∃ (z : Fin 1) (r' : Fin 256) (l : Fin 128), x = ix3 z r' l := ⟨x 0, x 1, x 2, eq_ix3 x⟩
    obtain rfl : z = 0 := Subsingleton.elim _ _
    exact (codeOf_at x0 x1 r' l k).trans (congrArg (fun i : S1x256x5120.Idx => codeS (rowX x0 (i 1)) (rowG x1) (i 2)) (emb_codes k r' l)).symm
  · refine ⟨_, (hm _).mpr ⟨⟨j.val / 128, by omega⟩, by simp; omega, rfl⟩, ?_⟩
    rw [Rect.mem_set_unit]
    intro a; fin_cases a <;> simp [ix3] <;> omega

/-- The block's projection. -/
theorem accV_at (x4 : Vec Ideal S5120x1792 .fp8e4m3) (r : Fin 256) (n : Fin 1792) :
    accV x0 x1 x4 (ix2 r n) = accS (rowX x0 r) (rowG x1) (matW x4) n := by
  have e : ∀ codes : Vec Ideal S1x256x5120 .fp8e4m3, accOf codes x4 (ix2 r n) = ∑ x, codes (ix3 0 r x) * x4 (ix2 x n) := by
    intro codes; pointwise [accOf]
  rw [accV, e, accS]
  exact Finset.sum_congr rfl fun k _ => congrArg (fun v : EReal => v * x4 (ix2 k n)) (codes_at x0 x1 r k)

/-- The scales as stored. -/
theorem scaleRow_at (r : Fin 256) : scaleRow (scaleOf (F := Ideal) (bV x0 x1)) (ix3 0 0 r) = scS (rowX x0 r) (rowG x1) := by
  have e : ∀ sc : FVec Ideal S256x128 .f32, scaleRow sc (ix3 0 0 r) = sc (ix2 r 0) := by
    intro sc; pointwise [scaleRow]
  rw [e, scale_at]

end codes

/-! ### The heads -/

section heads
variable (x0 : Vec Ideal S1x256x5120 .bf16) (x1 : Vec Ideal S1x5120 .f32) (x2 : Vec Ideal S1x1x256 .i32)
  (x3 : Vec Ideal S64x1 .f32) (x4 : Vec Ideal S5120x1792 .fp8e4m3) (x5 : Vec Ideal S1x1792 .f32)

/-- A head of the dequantised projection of row `r`. -/
def yRow (r : Fin 256) (h : Fin 14) : Fin 128 → EReal := headS (yS (rowX x0 r) (rowG x1) (matW x4) (rowW x5)) h

theorem yOf_at (r : Fin 256) (l : Fin 128) (h : Fin 14) :
    yOf (accV x0 x1 x4) (scaleOf (bV x0 x1)) x5 h (ix2 r l) = yRow x0 x1 x4 x5 r h l := by
  have e : yOf (accV x0 x1 x4) (scaleOf (bV x0 x1)) x5 h (ix2 r l) = accV x0 x1 x4 (ix2 r ⟨128 * h.val + l.val, by omega⟩)
      * scaleOf (F := Ideal) (bV x0 x1) (ix2 r l) * gF (wCh x5 h) (ix2 r l) := by pointwise [yOf]
  rw [e, accV_at, scale_at, wF_at]; rfl

theorem angV_at (r : Fin 256) (f : Fin 64) : angV x2 x3 (ix2 f r) = rowA x2 x3 r f := by
  pointwise [angV]
  rfl

/-- The rotation of one head. -/
theorem rope_at (y : FVec Ideal S256x128 .f32) (r : Fin 256) (l : Fin 128) :
    ropeOf (cosV (angV x2 x3)) (sinV (angV x2 x3)) y (ix2 r l) = rotS (fun l => y (ix2 r l)) (rowA x2 x3 r) l := by
  by_cases h : l.val < 64
  · have hi : (l.val + 128 - 64) % 128 = l.val + 64 := by omega
    pointwise [ropeOf, cosV, sinV]
    simp only [h, dite_true, angV_at, rotS, hi, sub_eq_add_neg, zero_add, mul_neg]
  · have hi : (l.val + 128 - 64) % 128 = l.val - 64 := by omega
    pointwise [ropeOf, cosV, sinV]
    simp only [h, dite_false, angV_at, rotS, hi]

theorem stored_at (v : FVec Ideal S256x128 .f32) (r : Fin 256) (l : Fin 128) : stored v (ix4 0 0 r l) = v (ix2 r l) := by
  pointwise [stored]

theorem emb_q (k : Fin 10) (r : Fin 256) (l : Fin 128) :
    (Rect.unit (s := S1x10x256x128) ![0, k.val, 0, 0] S1x1x256x128.size (inbQ k)).emb (ix4 0 0 r l : S1x1x256x128.Idx) = ix4 0 k r l := by
  funext a; apply Fin.ext
  refine (Rect.idx_unit_val (s := S1x10x256x128) ![0, k.val, 0, 0] S1x1x256x128.size (inbQ k) (ix4 0 0 r l : S1x1x256x128.Idx) a).trans ?_
  fin_cases a <;> simp [ix4]

/-- A block of ten heads, read at one of them. -/
theorem headsQ_at (v : Fin 10 → FVec Ideal S256x128 .f32) (L : List (View.Piece (Elt Ideal) S1x10x256x128 .bf16))
    (hm : ∀ p, p ∈ L ↔ ∃ k : Fin 10, k.val < 10 ∧ p = ⟨Rect.unit (s := S1x10x256x128) ![0, k.val, 0, 0] S1x1x256x128.size (inbQ k), stored (v k)⟩)
    (h : Fin 10) (r : Fin 256) (l : Fin 128) : View.canon L (ix4 0 h r l) = v h (ix2 r l) := by
  refine View.canon_apply_of_pieces (Val := Elt Ideal) (e := .bf16) (fun i : S1x10x256x128.Idx => v (i 1) (ix2 (i 2) (i 3))) _ ?_ (ix4 0 h r l) ?_
  · rintro p hp x
    obtain ⟨k, -, rfl⟩ := (hm p).mp hp
    obtain ⟨z, z', r', l', rfl⟩ : ∃ (z z' : Fin 1) (r' : Fin 256) (l' : Fin 128), x = ix4 z z' r' l' := ⟨x 0, x 1, x 2, x 3, eq_ix4 x⟩
    obtain rfl : z = 0 := Subsingleton.elim _ _
    obtain rfl : z' = 0 := Subsingleton.elim _ _
    exact (stored_at (v k) r' l').trans (congrArg (fun i : S1x10x256x128.Idx => v (i 1) (ix2 (i 2) (i 3))) (emb_q k r' l')).symm
  · refine ⟨_, (hm _).mpr ⟨h, h.isLt, rfl⟩, ?_⟩
    rw [Rect.mem_set_unit]
    intro a; fin_cases a <;> simp [ix4]

theorem emb_k (k : Fin 2) (r : Fin 256) (l : Fin 128) :
    (Rect.unit (s := S1x2x256x128) ![0, k.val, 0, 0] S1x1x256x128.size (inbK k)).emb (ix4 0 0 r l : S1x1x256x128.Idx) = ix4 0 k r l := by
  funext a; apply Fin.ext
  refine (Rect.idx_unit_val (s := S1x2x256x128) ![0, k.val, 0, 0] S1x1x256x128.size (inbK k) (ix4 0 0 r l : S1x1x256x128.Idx) a).trans ?_
  fin_cases a <;> simp [ix4]

/-- A block of two heads, read at one of them. -/
theorem headsK_at (v : Fin 2 → FVec Ideal S256x128 .f32) (L : List (View.Piece (Elt Ideal) S1x2x256x128 .bf16))
    (hm : ∀ p, p ∈ L ↔ ∃ k : Fin 2, k.val < 2 ∧ p = ⟨Rect.unit (s := S1x2x256x128) ![0, k.val, 0, 0] S1x1x256x128.size (inbK k), stored (v k)⟩)
    (h : Fin 2) (r : Fin 256) (l : Fin 128) : View.canon L (ix4 0 h r l) = v h (ix2 r l) := by
  refine View.canon_apply_of_pieces (Val := Elt Ideal) (e := .bf16) (fun i : S1x2x256x128.Idx => v (i 1) (ix2 (i 2) (i 3))) _ ?_ (ix4 0 h r l) ?_
  · rintro p hp x
    obtain ⟨k, -, rfl⟩ := (hm p).mp hp
    obtain ⟨z, z', r', l', rfl⟩ : ∃ (z z' : Fin 1) (r' : Fin 256) (l' : Fin 128), x = ix4 z z' r' l' := ⟨x 0, x 1, x 2, x 3, eq_ix4 x⟩
    obtain rfl : z = 0 := Subsingleton.elim _ _
    obtain rfl : z' = 0 := Subsingleton.elim _ _
    exact (stored_at (v k) r' l').trans (congrArg (fun i : S1x2x256x128.Idx => v (i 1) (ix2 (i 2) (i 3))) (emb_k k r' l')).symm
  · refine ⟨_, (hm _).mpr ⟨h, h.isLt, rfl⟩, ?_⟩
    rw [Rect.mem_set_unit]
    intro a; fin_cases a <;> simp [ix4]

/-- The block of query heads. -/
theorem q_at (h : Fin 10) (r : Fin 256) (l : Fin 128) :
    View.canon (qPieces (accV x0 x1 x4) (scaleOf (bV x0 x1)) (cosV (angV x2 x3)) (sinV (angV x2 x3)) x5 10 (Nat.le_refl _)) (ix4 0 h r l)
      = rotS (yRow x0 x1 x4 x5 r ⟨h.val, by omega⟩) (rowA x2 x3 r) l := by
  rw [headsQ_at (fun k => ropeOf (cosV (angV x2 x3)) (sinV (angV x2 x3)) (yOf (accV x0 x1 x4) (scaleOf (bV x0 x1)) x5 ⟨k.val, by omega⟩)) _
    (fun p => mem_trips _ (qPieces (accV x0 x1 x4) (scaleOf (bV x0 x1)) (cosV (angV x2 x3)) (sinV (angV x2 x3)) x5)
      (fun _ => rfl) (fun _ _ => rfl) p 10 (Nat.le_refl _)), rope_at]
  simp only [yOf_at]

/-- The block of key heads. -/
theorem k_at (h : Fin 2) (r : Fin 256) (l : Fin 128) :
    View.canon (kPieces (accV x0 x1 x4) (scaleOf (bV x0 x1)) (cosV (angV x2 x3)) (sinV (angV x2 x3)) x5 2 (Nat.le_refl _)) (ix4 0 h r l)
      = rotS (yRow x0 x1 x4 x5 r ⟨10 + h.val, by omega⟩) (rowA x2 x3 r) l := by
  rw [headsK_at (fun k => ropeOf (cosV (angV x2 x3)) (sinV (angV x2 x3)) (yOf (accV x0 x1 x4) (scaleOf (bV x0 x1)) x5 ⟨10 + k.val, by omega⟩)) _
    (fun p => mem_trips _ (kPieces (accV x0 x1 x4) (scaleOf (bV x0 x1)) (cosV (angV x2 x3)) (sinV (angV x2 x3)) x5)
      (fun _ => rfl) (fun _ _ => rfl) p 2 (Nat.le_refl _)), rope_at]
  simp only [yOf_at]

/-- The block of value heads. -/
theorem v_at (h : Fin 2) (r : Fin 256) (l : Fin 128) :
    View.canon (vPieces (accV x0 x1 x4) (scaleOf (bV x0 x1)) x5 2 (Nat.le_refl _)) (ix4 0 h r l)
      = yRow x0 x1 x4 x5 r ⟨12 + h.val, by omega⟩ l := by
  rw [headsK_at (fun k => yOf (accV x0 x1 x4) (scaleOf (bV x0 x1)) x5 ⟨12 + k.val, by omega⟩) _
    (fun p => mem_trips _ (vPieces (accV x0 x1 x4) (scaleOf (bV x0 x1)) x5)
      (fun _ => rfl) (fun _ _ => rfl) p 2 (Nat.le_refl _)), yOf_at]

end heads

end Cert.KernelIdeal.Block

end

end
-- ==== Proof.Arrays.lean ====
/- What the kernel's five result arrays hold after the run, element by element, in terms of `Spec` on the rows of the
   arguments: each grid point's blocks are read where they sit in the arrays, and the written-back blocks cover them. -/
module

public import proofs.«01_k».proof.Proof.Stored
public import proofs.«01_k».proof.Proof.Gen.KernelIdeal.Run
public import proofs.«01_k».proof.Proof.Gen.KernelIdeal.Read
public import Idealize.ShloMosaic.Lib.StableHlo.ReadAt

@[expose] public section

set_option maxRecDepth 16384

noncomputable section

namespace Cert.KernelIdeal.Arrays

open Cert.KernelIdeal Cert.KernelIdeal.Gen Cert.KernelIdeal.Block Idealize.ShloMosaic Idealize.ShloMosaic.TcCoe
open Idealize.SL.Sem Idealize.ShloMosaic.Tactic Cert.Spec

variable (m : (ℓ : Loc nD τ sig) → Buf (Elt Ideal) ℓ) (c : Dev nD)

/-! ### The arguments by rows -/

/-- Row `s` of batch `b` of the activations. -/
def argX (b : Fin 6) (s : Fin 4096) (k : Fin 5120) : EReal := m (c, Proc.tc.devRef main_arg0) (ix3 b s k)
/-- The gain. -/
def argG (k : Fin 5120) : EReal := m (c, Proc.tc.devRef main_arg1) (ix1 k)
/-- The position of row `s` of batch `b`. -/
def argP (b : Fin 6) (s : Fin 4096) : BitVec 32 := m (c, Proc.tc.devRef main_arg2) (ix2 b s)
/-- The weights. -/
def argW (k : Fin 5120) (n : Fin 1792) : EReal := m (c, Proc.tc.devRef main_arg3) (ix2 k n)
/-- The weights' scales. -/
def argS (n : Fin 1792) : EReal := m (c, Proc.tc.devRef main_arg4) (ix1 n)

theorem V_arg0 : V m c main_arg0 = m (c, Proc.tc.devRef main_arg0) := V_main_arg0 m c
theorem V_arg3 : V m c main_arg3 = m (c, Proc.tc.devRef main_arg3) := V_main_arg3 m c

theorem V_gain (k : Fin 5120) : V m c main_v10 (ix2 0 k) = argG m c k := by
  unfold V V0
  after_reads_at
  rfl
theorem V_pos (b : Fin 6) (s : Fin 4096) : V m c main_v11 (ix3 b 0 s) = argP m c b s := by
  unfold V V0
  after_reads_at
  rfl
theorem V_freq (f : Fin 64) : V m c main_v12 (ix2 f 0) = freqS f := by
  unfold V V0
  after_reads_at
  rfl
theorem V_scale (n : Fin 1792) : V m c main_v13 (ix2 0 n) = argS m c n := by
  unfold V V0
  after_reads_at
  rfl

/-! ### Where the blocks sit -/

/-- The batch of a grid point. -/
abbrev pB (t : Fin cfg0.N) : Fin 6 := ⟨t.val / 16, by have := t.isLt; simp only [show cfg0.N = 96 from rfl] at this; omega⟩
/-- The sequence row of row `r` of a grid point. -/
abbrev pS (t : Fin cfg0.N) (r : Fin 256) : Fin 4096 := ⟨t.val % 16 * 256 + r.val, by omega⟩

theorem idx0 : ∀ t : Fin grid0.N, win0_0.index t 0 = t.val / 16 ∧ win0_0.index t 1 = t.val % 16 ∧ win0_0.index t 2 = 0 := by decide +kernel
theorem idx1 : ∀ t : Fin grid0.N, win0_1.index t 0 = 0 ∧ win0_1.index t 1 = 0 := by decide +kernel
theorem idx2 : ∀ t : Fin grid0.N, win0_2.index t 0 = t.val / 16 ∧ win0_2.index t 1 = 0 ∧ win0_2.index t 2 = t.val % 16 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = t.val / 16 ∧ win0_6.index t 1 = 0 ∧ win0_6.index t 2 = t.val % 16 ∧ win0_6.index t 3 = 0 := by decide +kernel
theorem idx7 : ∀ t : Fin grid0.N, win0_7.index t 0 = t.val / 16 ∧ win0_7.index t 1 = 0 ∧ win0_7.index t 2 = t.val % 16 ∧ win0_7.index t 3 = 0 := by decide +kernel
theorem idx8 : ∀ t : Fin grid0.N, win0_8.index t 0 = t.val / 16 ∧ win0_8.index t 1 = 0 ∧ win0_8.index t 2 = t.val % 16 ∧ win0_8.index t 3 = 0 := by decide +kernel
theorem idx9 : ∀ t : Fin grid0.N, win0_9.index t 0 = t.val / 16 ∧ win0_9.index t 1 = t.val % 16 ∧ win0_9.index t 2 = 0 := by decide +kernel
theorem idx10 : ∀ t : Fin grid0.N, win0_10.index t 0 = t.val / 16 ∧ win0_10.index t 1 = 0 ∧ win0_10.index t 2 = t.val % 16 := by decide +kernel

theorem emb0 (t : Fin cfg0.N) (r : Fin 256) (k : Fin 5120) : (win0_0.blk t).view.emb (ix3 0 r k : S1x256x5120.Idx) = ix3 (pB t) (pS t r) k := by
  obtain ⟨h0, h1, h2⟩ := idx0 t
  funext a; apply Fin.ext
  refine (Pipeline.Window.rect_emb_val win0_0 t (ix3 0 r k : S1x256x5120.Idx) a rfl).trans ?_
  fin_cases a <;> simp [h0, h1, h2, ix3]
theorem emb1 (t : Fin cfg0.N) (k : Fin 5120) : (win0_1.blk t).view.emb (ix2 0 k : S1x5120.Idx) = ix2 0 k := by
  obtain ⟨h0, h1⟩ := idx1 t
  funext a; apply Fin.ext
  refine (Pipeline.Window.rect_emb_val win0_1 t (ix2 0 k : S1x5120.Idx) a rfl).trans ?_
  fin_cases a <;> simp [h0, h1, ix2]
theorem emb2 (t : Fin cfg0.N) (r : Fin 256) : (win0_2.blk t).view.emb (ix3 0 0 r : S1x1x256.Idx) = ix3 (pB t) 0 (pS t r) := by
  obtain ⟨h0, h1, h2⟩ := idx2 t
  funext a; apply Fin.ext
  refine (Pipeline.Window.rect_emb_val win0_2 t (ix3 0 0 r : S1x1x256.Idx) a rfl).trans ?_
  fin_cases a <;> simp [h0, h1, h2, ix3]
theorem emb3 (t : Fin cfg0.N) (f : Fin 64) : (win0_3.blk t).view.emb (ix2 f 0 : S64x1.Idx) = ix2 f 0 := by
  obtain ⟨h0, h1⟩ := idx3 t
  funext a; apply Fin.ext
  refine (Pipeline.Window.rect_emb_val win0_3 t (ix2 f 0 : S64x1.Idx) a rfl).trans ?_
  fin_cases a <;> simp [h0, h1, ix2]
theorem emb4 (t : Fin cfg0.N) (k : Fin 5120) (n : Fin 1792) : (win0_4.blk t).view.emb (ix2 k n : S5120x1792.Idx) = ix2 k n := by
  obtain ⟨h0, h1⟩ := idx4 t
  funext a; apply Fin.ext
  refine (Pipeline.Window.rect_emb_val win0_4 t (ix2 k n : S5120x1792.Idx) a rfl).trans ?_
  fin_cases a <;> simp [h0, h1, ix2]
theorem emb5 (t : Fin cfg0.N) (n : Fin 1792) : (win0_5.blk t).view.emb (ix2 0 n : S1x1792.Idx) = ix2 0 n := by
  obtain ⟨h0, h1⟩ := idx5 t
  funext a; apply Fin.ext
  refine (Pipeline.Window.rect_emb_val win0_5 t (ix2 0 n : S1x1792.Idx) a rfl).trans ?_
  fin_cases a <;> simp [h0, h1, ix2]
theorem emb6 (t : Fin cfg0.N) (h : Fin 10) (r : Fin 256) (l : Fin 128) : (win0_6.blk t).view.emb (ix4 0 h r l : S1x10x256x128.Idx) = ix4 (pB t) h (pS t r) l := by
  obtain ⟨h0, h1, h2, h3⟩ := idx6 t
  funext a; apply Fin.ext
  refine (Pipeline.Window.rect_emb_val win0_6 t (ix4 0 h r l : S1x10x256x128.Idx) a rfl).trans ?_
  fin_cases a <;> simp [h0, h1, h2, h3, ix4]
theorem emb7 (t : Fin cfg0.N) (h : Fin 2) (r : Fin 256) (l : Fin 128) : (win0_7.blk t).view.emb (ix4 0 h r l : S1x2x256x128.Idx) = ix4 (pB t) h (pS t r) l := by
  obtain ⟨h0, h1, h2, h3⟩ := idx7 t
  funext a; apply Fin.ext
  refine (Pipeline.Window.rect_emb_val win0_7 t (ix4 0 h r l : S1x2x256x128.Idx) a rfl).trans ?_
  fin_cases a <;> simp [h0, h1, h2, h3, ix4]
theorem emb8 (t : Fin cfg0.N) (h : Fin 2) (r : Fin 256) (l : Fin 128) : (win0_8.blk t).view.emb (ix4 0 h r l : S1x2x256x128.Idx) = ix4 (pB t) h (pS t r) l := by
  obtain ⟨h0, h1, h2, h3⟩ := idx8 t
  funext a; apply Fin.ext
  refine (Pipeline.Window.rect_emb_val win0_8 t (ix4 0 h r l : S1x2x256x128.Idx) a rfl).trans ?_
  fin_cases a <;> simp [h0, h1, h2, h3, ix4]
theorem emb9 (t : Fin cfg0.N) (r : Fin 256) (k : Fin 5120) : (win0_9.blk t).view.emb (ix3 0 r k : S1x256x5120.Idx) = ix3 (pB t) (pS t r) k := by
  obtain ⟨h0, h1, h2⟩ := idx9 t
  funext a; apply Fin.ext
  refine (Pipeline.Window.rect_emb_val win0_9 t (ix3 0 r k : S1x256x5120.Idx) a rfl).trans ?_
  fin_cases a <;> simp [h0, h1, h2, ix3]
theorem emb10 (t : Fin cfg0.N) (r : Fin 256) : (win0_10.blk t).view.emb (ix3 0 0 r : S1x1x256.Idx) = ix3 (pB t) 0 (pS t r) := by
  obtain ⟨h0, h1, h2⟩ := idx10 t
  funext a; apply Fin.ext
  refine (Pipeline.Window.rect_emb_val win0_10 t (ix3 0 0 r : S1x1x256.Idx) a rfl).trans ?_
  fin_cases a <;> simp [h0, h1, h2, ix3]

/-! ### The input blocks' rows -/

theorem rowX_blk (t : Fin cfg0.N) (r : Fin 256) : rowX (iblk m c 0 t) r = argX m c (pB t) (pS t r) :=
  funext fun k => ((congrArg (V m c main_arg0) (emb0 t r k)).trans (congrFun (V_arg0 m c) _) : _)
theorem rowG_blk (t : Fin cfg0.N) : rowG (iblk m c 1 t) = argG m c :=
  funext fun k => ((congrArg (V m c main_v10) (emb1 t k)).trans (V_gain m c k) : _)
theorem matW_blk (t : Fin cfg0.N) : matW (iblk m c 4 t) = argW m c :=
  funext fun k => funext fun n => ((congrArg (V m c main_arg3) (emb4 t k n)).trans (congrFun (V_arg3 m c) _) : _)
theorem rowW_blk (t : Fin cfg0.N) : rowW (iblk m c 5 t) = argS m c :=
  funext fun n => ((congrArg (V m c main_v13) (emb5 t n)).trans (V_scale m c n) : _)
theorem rowA_blk (t : Fin cfg0.N) (r : Fin 256) : rowA (iblk m c 2 t) (iblk m c 3 t) r = angS (argP m c (pB t) (pS t r)) := by
  funext f
  have h1 : iblk m c 3 t (ix2 f 0 : S64x1.Idx) = freqS f := (congrArg (V m c main_v12) (emb3 t f)).trans (V_freq m c f)
  have h2 : iblk m c 2 t (ix3 0 0 r : S1x1x256.Idx) = argP m c (pB t) (pS t r) :=
    (congrArg (V m c main_v11) (emb2 t r)).trans (V_pos m c _ _)
  exact congrArg₂ (fun (x : EReal) (p : BitVec 32) => x * FloatOps.sitofp (F := Ideal) .f32 p) h1 h2

/-! ### What a point leaves, in the arguments' rows -/

/-- The fourteen heads: ten of queries, two of keys, two of values. -/
def hQ (h : Fin 10) : Fin 14 := ⟨h.val, by omega⟩
@[inherit_doc hQ] def hK (h : Fin 2) : Fin 14 := ⟨10 + h.val, by omega⟩
@[inherit_doc hQ] def hV (h : Fin 2) : Fin 14 := ⟨12 + h.val, by omega⟩

/-- Head `h` of the projection of a row with its scales. -/
def headK (b : Fin 6) (s : Fin 4096) (h : Fin 14) : Fin 128 → EReal :=
  headS (yS (argX m c b s) (argG m c) (argW m c) (argS m c)) h
/-- Head `h` rotated. -/
def rotK (b : Fin 6) (s : Fin 4096) (h : Fin 14) : Fin 128 → EReal := rotS (headK m c b s h) (angS (argP m c b s))
/-- The codes of a row. -/
def codeK (b : Fin 6) (s : Fin 4096) (k : Fin 5120) : EReal := codeS (argX m c b s) (argG m c) k
/-- The scale of a row. -/
def scaleK (b : Fin 6) (s : Fin 4096) : EReal := scS (argX m c b s) (argG m c)

theorem yRow_blk (t : Fin cfg0.N) (r : Fin 256) (h : Fin 14) :
    yRow (iblk m c 0 t) (iblk m c 1 t) (iblk m c 4 t) (iblk m c 5 t) r h = headK m c (pB t) (pS t r) h := by
  unfold yRow headK
  rw [rowX_blk m c t r, rowG_blk m c t, matW_blk m c t, rowW_blk m c t]

/-- A point's codes. -/
theorem codes_blk (t : Fin cfg0.N) (r : Fin 256) (k : Fin 5120) :
    (outsAt0 m c t).2.2.2.1 (ix3 0 r k) = codeK m c (pB t) (pS t r) k := by
  rw [out9_eq]
  refine (codes_at (iblk m c 0 t) (iblk m c 1 t) r k).trans ?_
  unfold codeK
  rw [rowX_blk m c t r, rowG_blk m c t]

/-- A point's scales. -/
theorem scale_blk (t : Fin cfg0.N) (r : Fin 256) : (outsAt0 m c t).2.2.2.2 (ix3 0 0 r) = scaleK m c (pB t) (pS t r) := by
  rw [out10_eq]
  refine (scaleRow_at (iblk m c 0 t) (iblk m c 1 t) r).trans ?_
  unfold scaleK
  rw [rowX_blk m c t r, rowG_blk m c t]

/-- A point's query heads. -/
theorem q_blk (t : Fin cfg0.N) (h : Fin 10) (r : Fin 256) (l : Fin 128) :
    (outsAt0 m c t).1 (ix4 0 h r l) = rotK m c (pB t) (pS t r) (hQ h) l := by
  rw [out6_eq]
  refine (q_at (iblk m c 0 t) (iblk m c 1 t) (iblk m c 2 t) (iblk m c 3 t) (iblk m c 4 t) (iblk m c 5 t) h r l).trans ?_
  unfold rotK hQ
  rw [yRow_blk m c t r, rowA_blk m c t r]

/-- A point's key heads. -/
theorem k_blk (t : Fin cfg0.N) (h : Fin 2) (r : Fin 256) (l : Fin 128) :
    (outsAt0 m c t).2.1 (ix4 0 h r l) = rotK m c (pB t) (pS t r) (hK h) l := by
  rw [out7_eq]
  refine (k_at (iblk m c 0 t) (iblk m c 1 t) (iblk m c 2 t) (iblk m c 3 t) (iblk m c 4 t) (iblk m c 5 t) h r l).trans ?_
  unfold rotK hK
  rw [yRow_blk m c t r, rowA_blk m c t r]

/-- A point's value heads. -/
theorem v_blk (t : Fin cfg0.N) (h : Fin 2) (r : Fin 256) (l : Fin 128) :
    (outsAt0 m c t).2.2.1 (ix4 0 h r l) = headK m c (pB t) (pS t r) (hV h) l := by
  rw [out8_eq]
  refine (v_at (iblk m c 0 t) (iblk m c 1 t) (iblk m c 4 t) (iblk m c 5 t) h r l).trans ?_
  unfold hV
  rw [yRow_blk m c t r]

/-! ### The result arrays -/

/-- The codes' array. -/
def codesG (i : S6x4096x5120.Idx) : EReal := codeK m c (i 0) (i 1) (i 2)
/-- The scales' array. -/
def scalesG (i : S6x1x4096.Idx) : EReal := scaleK m c (i 0) (i 2)
/-- The query heads' array. -/
def qG (i : S6x10x4096x128.Idx) : EReal := rotK m c (i 0) (i 2) (hQ (i 1)) (i 3)
/-- The key heads' array. -/
def kG (i : S6x2x4096x128.Idx) : EReal := rotK m c (i 0) (i 2) (hK (i 1)) (i 3)
/-- The value heads' array. -/
def vG (i : S6x2x4096x128.Idx) : EReal := headK m c (i 0) (i 2) (hV (i 1)) (i 3)

/-- The codes after the run. -/
theorem codes_arr : Value.reg_main_v14_3 m c = codesG m c := by
  unfold Value.reg_main_v14_3
  refine (dats m 0 c).arrAt_eq_of_covers 9 _ (by decide +kernel) fun t hf y => ?_
  have hb := codes_blk m c t
  rw [after0_9]
  generalize (outsAt0 m c t).2.2.2.1 = f at hb ⊢
  frame_out
  obtain ⟨z, r, k, rfl⟩ : ∃ (z : Fin 1) (r : Fin 256) (k : Fin 5120), y = (ix3 z r k : S1x256x5120.Idx) :=
    ⟨y 0, y 1, y 2, eq_ix3 (n0 := 1) (n1 := 256) (n2 := 5120) y⟩
  obtain rfl : z = 0 := Subsingleton.elim _ _
  exact (hb r k).trans (congrArg (codesG m c) (emb9 t r k)).symm

/-- The scales after the run. -/
theorem scales_arr : Value.reg_main_v14_4 m c = scalesG m c := by
  unfold Value.reg_main_v14_4
  refine (dats m 0 c).arrAt_eq_of_covers 10 _ (by decide +kernel) fun t hf y => ?_
  have hb := scale_blk m c t
  rw [after0_10]
  generalize (outsAt0 m c t).2.2.2.2 = f at hb ⊢
  frame_out
  obtain ⟨z, z', r, rfl⟩ : ∃ (z z' : Fin 1) (r : Fin 256), y = (ix3 z z' r : S1x1x256.Idx) :=
    ⟨y 0, y 1, y 2, eq_ix3 (n0 := 1) (n1 := 1) (n2 := 256) y⟩
  obtain rfl : z = 0 := Subsingleton.elim _ _
  obtain rfl : z' = 0 := Subsingleton.elim _ _
  exact (hb r).trans (congrArg (scalesG m c) (emb10 t r)).symm

/-- The query heads after the run. -/
theorem q_arr : Value.reg_main_v14_0 m c = qG m c := by
  unfold Value.reg_main_v14_0
  refine (dats m 0 c).arrAt_eq_of_covers 6 _ (by decide +kernel) fun t hf y => ?_
  have hb := q_blk m c t
  rw [after0_6]
  generalize (outsAt0 m c t).1 = f at hb ⊢
  frame_out
  obtain ⟨z, h, r, l, rfl⟩ : ∃ (z : Fin 1) (h : Fin 10) (r : Fin 256) (l : Fin 128), y = (ix4 z h r l : S1x10x256x128.Idx) :=
    ⟨y 0, y 1, y 2, y 3, eq_ix4 (n0 := 1) (n1 := 10) (n2 := 256) (n3 := 128) y⟩
  obtain rfl : z = 0 := Subsingleton.elim _ _
  exact (hb h r l).trans (congrArg (qG m c) (emb6 t h r l)).symm

/-- The key heads after the run. -/
theorem k_arr : Value.reg_main_v14_1 m c = kG m c := by
  unfold Value.reg_main_v14_1
  refine (dats m 0 c).arrAt_eq_of_covers 7 _ (by decide +kernel) fun t hf y => ?_
  have hb := k_blk m c t
  rw [after0_7]
  generalize (outsAt0 m c t).2.1 = f at hb ⊢
  frame_out
  obtain ⟨z, h, r, l, rfl⟩ : ∃ (z : Fin 1) (h : Fin 2) (r : Fin 256) (l : Fin 128), y = (ix4 z h r l : S1x2x256x128.Idx) :=
    ⟨y 0, y 1, y 2, y 3, eq_ix4 (n0 := 1) (n1 := 2) (n2 := 256) (n3 := 128) y⟩
  obtain rfl : z = 0 := Subsingleton.elim _ _
  exact (hb h r l).trans (congrArg (kG m c) (emb7 t h r l)).symm

/-- The value heads after the run. -/
theorem v_arr : Value.reg_main_v14_2 m c = vG m c := by
  unfold Value.reg_main_v14_2
  refine (dats m 0 c).arrAt_eq_of_covers 8 _ (by decide +kernel) fun t hf y => ?_
  have hb := v_blk m c t
  rw [after0_8]
  generalize (outsAt0 m c t).2.2.1 = f at hb ⊢
  frame_out
  obtain ⟨z, h, r, l, rfl⟩ : ∃ (z : Fin 1) (h : Fin 2) (r : Fin 256) (l : Fin 128), y = (ix4 z h r l : S1x2x256x128.Idx) :=
    ⟨y 0, y 1, y 2, y 3, eq_ix4 (n0 := 1) (n1 := 2) (n2 := 256) (n3 := 128) y⟩
  obtain rfl : z = 0 := Subsingleton.elim _ _
  exact (hb h r l).trans (congrArg (vG m c) (emb8 t h r l)).symm

end Cert.KernelIdeal.Arrays

end

end
-- ==== Proof.Ref.lean ====
/- What the reference computes, element by element, in terms of `Spec` on the rows of the arguments: the host's normalised
   rows and exponents, the one grid point's three arrays, and the host's scales, heads and rotations after it. -/
module

public import proofs.«01_k».proof.Proof.Spec
public import proofs.«01_k».proof.Proof.Gen.ReferenceIdeal.Run
public import proofs.«01_k».proof.Proof.Gen.ReferenceIdeal.Read
public import Idealize.ShloMosaic.Lib.Pointwise
public import Idealize.ShloMosaic.Lib.Pipeline.ValueKit
public import Idealize.ShloMosaic.Lib.StableHlo.ReadAt

@[expose] public section

set_option maxRecDepth 16384

noncomputable section

namespace Cert.ReferenceIdeal.Ref

open Cert.ReferenceIdeal Cert.ReferenceIdeal.Gen Idealize.ShloMosaic Idealize.ShloMosaic.TcCoe
open Idealize.SL.Sem Idealize.ShloMosaic.Tactic Cert.Scale Cert.Spec

variable (m : (ℓ : Loc nD τ sig) → Buf (Elt Ideal) ℓ) (c : Dev nD)

/-! ### The arguments by rows -/

/-- Row `s` of batch `b` of the activations. -/
def argX (b : Fin 6) (s : Fin 4096) (k : Fin 5120) : EReal := m (c, Proc.tc.devRef main_arg0) (ix3 b s k)
/-- The gain. -/
def argG (k : Fin 5120) : EReal := m (c, Proc.tc.devRef main_arg1) (ix1 k)
/-- The position of row `s` of batch `b`. -/
def argP (b : Fin 6) (s : Fin 4096) : BitVec 32 := m (c, Proc.tc.devRef main_arg2) (ix2 b s)
/-- The weights. -/
def argW (k : Fin 5120) (n : Fin 1792) : EReal := m (c, Proc.tc.devRef main_arg3) (ix2 k n)
/-- The weights' scales. -/
def argS (n : Fin 1792) : EReal := m (c, Proc.tc.devRef main_arg4) (ix1 n)

/-! ### Before the region: the normalised rows and the exponents -/

/-- Dividing by the row's length is multiplying by its reciprocal. -/
theorem div_len (x : EReal) : Ideal.div x (Ideal.ofBits FTy.f32 1168113664#32) = x * ((1 / 5120 : ℝ) : EReal) := by
  have h : Ideal.ofBits FTy.f32 1168113664#32 = ((5120 : ℝ) : EReal) := by
    simp [Ideal.ofBits, Ideal.ieee, -EReal.coe_mul]; norm_num
  rw [h, Ideal.div_coe (by norm_num), one_div]

/-- The normalised rows the region is given. -/
theorem V_h (b : Fin 6) (s : Fin 4096) (k : Fin 5120) :
    V m c main_v13 (ix3 b s k) = hS (argX m c b s) (argG m c) k := by
  unfold V V0
  after_reads_at
  rw [div_len]
  rfl

/-- The largest magnitudes of the rows of `h`, as the host computes them. -/
def amV (h : FVec Ideal S6x4096x5120 .f32) : FVec Ideal S6x4096 .f32 :=
  Host.reduce FloatOps.maximumf (Host.absf h) (constant (F := Ideal) S_ FTy.f32 4286578688#32) reducesTo_S6x4096x5120_S6x4096_d2 h_S_

/-- The scaled maxima, as the host computes them. -/
def tV (am : FVec Ideal S6x4096 .f32) : FVec Ideal S6x4096x1 .f32 :=
  mulf (broadcastInDim S6x4096x1 ![0, 1] bcast_S6x4096_S6x4096x1_0_1 am)
    (broadcastInDim S6x4096x1 ![] bcast_S_S6x4096x1 (constant (F := Ideal) S_ FTy.f32 991054117#32))

/-- The exponents of the scaled maxima `t`, as the host computes them. -/
def eV (t : FVec Ideal S6x4096x1 .f32) : FVec Ideal S6x4096x1 .f32 :=
  select (andi (cmpf .oge t (broadcastInDim S6x4096x1 ![] bcast_S_S6x4096x1 (constant (F := Ideal) S_ FTy.f32 8388608#32)))
      (cmpf .olt t (broadcastInDim S6x4096x1 ![] bcast_S_S6x4096x1 (constant (F := Ideal) S_ FTy.f32 2139095040#32))))
    (addf (Host.floor (Host.divf (Host.log t)
        (Host.log (broadcastInDim S6x4096x1 ![] bcast_S_S6x4096x1 (constant (F := Ideal) S_ FTy.f32 1073741824#32)))))
      (broadcastInDim S6x4096x1 ![] bcast_S_S6x4096x1 (constant (F := Ideal) S_ FTy.f32 1065353216#32)))
    (broadcastInDim S6x4096x1 ![] bcast_S_S6x4096x1 (constant (F := Ideal) S_ FTy.f32 0#32))

theorem reduces_row : Shape.Reduces S6x4096x5120 [2] S6x4096 := by decide

/-- The index of row `s` of batch `b` with the column put back. -/
theorem lift_row (b : Fin 6) (s : Fin 4096) (k : Fin 5120) :
    reduces_row.lift (ix2 b s) k = (ix3 b s k : S6x4096x5120.Idx) := by
  funext a; apply Fin.ext
  fin_cases a <;> rfl

theorem amV_at (h : FVec Ideal S6x4096x5120 .f32) (b : Fin 6) (s : Fin 4096) :
    amV h (ix2 b s) = Finset.fold max ⊥ (fun k : Fin 5120 => max (h (ix3 b s k)) (-h (ix3 b s k))) Finset.univ := by
  unfold amV
  rw [Host.reduce_eq_fold_single FloatOps.maximumf _ _ _ reduces_row]
  have hi : (constant (F := Ideal) S_ FTy.f32 4286578688#32) (Shape.Idx.first h_S_) = (⊥ : EReal) := by
    show Ideal.ofBits FTy.f32 4286578688#32 = _
    simp [Ideal.ofBits, Ideal.ieee]
  have hf : (Host.absf h ∘ reduces_row.lift (ix2 b s)) = fun k : Fin 5120 => (max (h (ix3 b s k)) (-h (ix3 b s k)) : EReal) :=
    funext fun k => congrArg (Host.absf h) (lift_row b s k)
  exact congrArg₂ (fun i f => Finset.fold (max : EReal → EReal → EReal) i f (Finset.univ : Finset (Fin 5120))) hi hf

theorem tV_at (am : FVec Ideal S6x4096 .f32) (b : Fin 6) (s : Fin 4096) :
    tV am (ix3 b s 0) = am (ix2 b s) * Ideal.ofBits FTy.f32 991054117#32 := by
  pointwise [tV]

theorem eV_at (t : FVec Ideal S6x4096x1 .f32) (b : Fin 6) (s : Fin 4096) : eV t (ix3 b s 0) = expo (t (ix3 b s 0)) := by
  pointwise [eV]
  rfl

/-- The exponents are computed from the normalised rows. -/
theorem V_e_of : V m c main_v32 = eV (tV (amV (V m c main_v13))) := by
  unfold V V0
  after_reads_simp
  simp -implicitDefEqProofs only [StableHlo.TRef.toBuf, StableHlo.TRef.ofBuf, cast_cast, cast_eq]
  clean_types
  rfl

/-- The exponents the region is given. -/
theorem V_e (b : Fin 6) (s : Fin 4096) : V m c main_v32 (ix3 b s 0) = expo (tS (argX m c b s) (argG m c)) := by
  rw [V_e_of, eV_at, tV_at, amV_at]
  unfold tS amS
  refine congrArg (fun f => expo (Finset.fold max ⊥ f Finset.univ * _)) (funext fun k => ?_)
  rw [V_h]

theorem V_w : V m c main_arg3 = m (c, Proc.tc.devRef main_arg3) := V_main_arg3 m c

/-! ### The one point's blocks are the whole arrays -/

theorem idx0 : ∀ t : Fin cfg0.N, win0_0.index t 0 = 0 ∧ win0_0.index t 1 = 0 ∧ win0_0.index t 2 = 0 := by decide +kernel
theorem idx1 : ∀ t : Fin cfg0.N, win0_1.index t 0 = 0 ∧ win0_1.index t 1 = 0 ∧ win0_1.index t 2 = 0 := by decide +kernel
theorem idx2 : ∀ t : Fin cfg0.N, win0_2.index t 0 = 0 ∧ win0_2.index t 1 = 0 := by decide +kernel
theorem idx3 : ∀ t : Fin cfg0.N, win0_3.index t 0 = 0 ∧ win0_3.index t 1 = 0 ∧ win0_3.index t 2 = 0 := by decide +kernel
theorem idx4 : ∀ t : Fin cfg0.N, win0_4.index t 0 = 0 ∧ win0_4.index t 1 = 0 ∧ win0_4.index t 2 = 0 := by decide +kernel
theorem idx5 : ∀ t : Fin cfg0.N, win0_5.index t 0 = 0 ∧ win0_5.index t 1 = 0 ∧ win0_5.index t 2 = 0 := by decide +kernel

theorem emb0 (t : Fin cfg0.N) (y : S6x4096x5120.Idx) : (win0_0.blk t).view.emb y = y := by
  obtain ⟨h0, h1, h2⟩ := idx0 t
  funext a; apply Fin.ext
  refine (Pipeline.Window.rect_emb_val win0_0 t y a rfl).trans ?_
  fin_cases a <;> simp [h0, h1, h2]
theorem emb1 (t : Fin cfg0.N) (y : S6x4096x1.Idx) : (win0_1.blk t).view.emb y = y := by
  obtain ⟨h0, h1, h2⟩ := idx1 t
  funext a; apply Fin.ext
  refine (Pipeline.Window.rect_emb_val win0_1 t y a rfl).trans ?_
  fin_cases a <;> simp [h0, h1, h2]
theorem emb2 (t : Fin cfg0.N) (y : S5120x1792.Idx) : (win0_2.blk t).view.emb y = y := by
  obtain ⟨h0, h1⟩ := idx2 t
  funext a; apply Fin.ext
  refine (Pipeline.Window.rect_emb_val win0_2 t y a rfl).trans ?_
  fin_cases a <;> simp [h0, h1]
theorem emb3 (t : Fin cfg0.N) (y : S6x4096x5120.Idx) : (win0_3.blk t).view.emb y = y := by
  obtain ⟨h0, h1, h2⟩ := idx3 t
  funext a; apply Fin.ext
  refine (Pipeline.Window.rect_emb_val win0_3 t y a rfl).trans ?_
  fin_cases a <;> simp [h0, h1, h2]
theorem emb4 (t : Fin cfg0.N) (y : S6x4096x1.Idx) : (win0_4.blk t).view.emb y = y := by
  obtain ⟨h0, h1, h2⟩ := idx4 t
  funext a; apply Fin.ext
  refine (Pipeline.Window.rect_emb_val win0_4 t y a rfl).trans ?_
  fin_cases a <;> simp [h0, h1, h2]
theorem emb5 (t : Fin cfg0.N) (y : S6x4096x1792.Idx) : (win0_5.blk t).view.emb y = y := by
  obtain ⟨h0, h1, h2⟩ := idx5 t
  funext a; apply Fin.ext
  refine (Pipeline.Window.rect_emb_val win0_5 t y a rfl).trans ?_
  fin_cases a <;> simp [h0, h1, h2]

theorem read0 (A : Vec Ideal S6x4096x5120 .f32) (t : Fin cfg0.N) (y : S6x4096x5120.Idx) : (win0_0.blk t).view.read (Elt Ideal) A y = A y :=
  congrArg A (emb0 t y)
theorem iblk0 (t : Fin cfg0.N) (y : S6x4096x5120.Idx) : (iblk m c 0 t : Vec Ideal S6x4096x5120 .f32) y = V m c main_v13 y :=
  read0 (V m c main_v13) t y
theorem read1 (A : Vec Ideal S6x4096x1 .f32) (t : Fin cfg0.N) (y : S6x4096x1.Idx) : (win0_1.blk t).view.read (Elt Ideal) A y = A y :=
  congrArg A (emb1 t y)
theorem iblk1 (t : Fin cfg0.N) (y : S6x4096x1.Idx) : (iblk m c 1 t : Vec Ideal S6x4096x1 .f32) y = V m c main_v32 y :=
  read1 (V m c main_v32) t y
theorem read2 (A : Vec Ideal S5120x1792 .fp8e4m3) (t : Fin cfg0.N) (y : S5120x1792.Idx) : (win0_2.blk t).view.read (Elt Ideal) A y = A y :=
  congrArg A (emb2 t y)
theorem iblk2 (t : Fin cfg0.N) (y : S5120x1792.Idx) : (iblk m c 2 t : Vec Ideal S5120x1792 .fp8e4m3) y = V m c main_arg3 y :=
  read2 (V m c main_arg3) t y

/-- The block of normalised rows at an element. -/
theorem h_blk (t : Fin cfg0.N) (b : Fin 6) (s : Fin 4096) (k : Fin 5120) :
    (iblk m c 0 t : Vec Ideal S6x4096x5120 .f32) (ix3 b s k) = hS (argX m c b s) (argG m c) k := by
  rw [iblk0, V_h]
/-- The block of exponents at an element. -/
theorem e_blk (t : Fin cfg0.N) (b : Fin 6) (s : Fin 4096) :
    (iblk m c 1 t : Vec Ideal S6x4096x1 .f32) (ix3 b s 0) = expo (tS (argX m c b s) (argG m c)) := by
  rw [iblk1, V_e]
/-- The block of weights at an element. -/
theorem w_blk (t : Fin cfg0.N) (k : Fin 5120) (n : Fin 1792) :
    (iblk m c 2 t : Vec Ideal S5120x1792 .fp8e4m3) (ix2 k n) = argW m c k n := by
  rw [iblk2, V_w]; rfl

/-! ### What the point leaves -/

section point
variable (h : Vec Ideal S6x4096x5120 .f32) (e : Vec Ideal S6x4096x1 .f32) (w : Vec Ideal S5120x1792 .fp8e4m3)

theorem out3_eq : out0_3 h e w = k0_pay3 e h := by
  unfold out0_3
  simp (disch := decide) only [View.canon_cons_unit_lit', View.ld_unit_lit']
theorem out4_eq : out0_4 h e w = k0_pay4 e := by
  unfold out0_4
  simp (disch := decide) only [View.canon_cons_unit_lit', View.ld_unit_lit']
theorem out5_eq : out0_5 h e w = k0_pay1 (k0_pay3 e h) w := by
  unfold out0_5
  simp (disch := decide) only [View.canon_cons_unit_lit', View.ld_unit_lit']

/-- A code: the normalised element times the inverse scale, clipped. -/
theorem code_at (b : Fin 6) (s : Fin 4096) (k : Fin 5120) : k0_pay3 e h (ix3 b s k)
    = min (Ideal.ofBits FTy.f32 1138753536#32) (max (Ideal.ofBits FTy.f32 3286237184#32)
        (h (ix3 b s k) * ldexp1 (0 - e (ix3 b s 0)))) := by
  pointwise [k0_pay3, k0_pay2]
  rfl
/-- A scale: two to the exponent. -/
theorem scale_at (b : Fin 6) (s : Fin 4096) : k0_pay4 e (ix3 b s 0) = ldexp1 (e (ix3 b s 0)) := by
  pointwise [k0_pay4, k0_pay2]
  rfl
/-- The product with the weights. -/
theorem acc_at (q : Vec Ideal S6x4096x5120 .fp8e4m3) (b : Fin 6) (s : Fin 4096) (n : Fin 1792) :
    k0_pay1 q w (ix3 b s n) = ∑ k : Fin 5120, q (ix3 b s k) * w (ix2 k n) := by
  pointwise [k0_pay1]
/-- The product with the weights of rows known element by element. -/
theorem acc_of (q : Vec Ideal S6x4096x5120 .fp8e4m3) (b : Fin 6) (s : Fin 4096) (n : Fin 1792) (Q W : Fin 5120 → EReal)
    (hq : ∀ k, q (ix3 b s k) = Q k) (hw : ∀ k, w (ix2 k n) = W k) : k0_pay1 q w (ix3 b s n) = ∑ k, Q k * W k := by
  rw [acc_at]
  simp only [hq, hw]
end point

/-- The codes of every row. -/
def codesG : S6x4096x5120.Idx → EReal := fun i => codeS (argX m c (i 0) (i 1)) (argG m c) (i 2)
/-- The scales of every row. -/
def scalesG : S6x4096x1.Idx → EReal := fun i => scS (argX m c (i 0) (i 1)) (argG m c)
/-- The product of every row. -/
def accG : S6x4096x1792.Idx → EReal := fun i => accS (argX m c (i 0) (i 1)) (argG m c) (argW m c) (i 2)

theorem codes_blk (t : Fin cfg0.N) (b : Fin 6) (s : Fin 4096) (k : Fin 5120) :
    out0_3 (iblk m c 0 t) (iblk m c 1 t) (iblk m c 2 t) (ix3 b s k) = codesG m c (ix3 b s k) := by
  rw [out3_eq, code_at, h_blk, e_blk]; rfl
theorem scales_blk (t : Fin cfg0.N) (b : Fin 6) (s : Fin 4096) :
    out0_4 (iblk m c 0 t) (iblk m c 1 t) (iblk m c 2 t) (ix3 b s 0) = scalesG m c (ix3 b s 0) := by
  rw [out4_eq, scale_at, e_blk]; rfl
theorem acc_blk (t : Fin cfg0.N) (b : Fin 6) (s : Fin 4096) (n : Fin 1792) :
    out0_5 (iblk m c 0 t) (iblk m c 1 t) (iblk m c 2 t) (ix3 b s n) = accG m c (ix3 b s n) := by
  rw [out5_eq]
  refine (acc_of _ _ b s n (codeS (argX m c b s) (argG m c)) (fun k => argW m c k n) (fun k => ?_) fun k => w_blk m c t k n).trans rfl
  rw [code_at, h_blk, e_blk]; rfl

theorem codes_arr : Value.reg_main_v33_0 m c = codesG m c := by
  unfold Value.reg_main_v33_0
  refine (dats m 0 c).arrAt_eq_of_covers 3 _ (by decide +kernel) fun t hf y => ?_
  have hb := codes_blk m c t
  rw [after0_3]
  generalize out0_3 (F := Ideal) (iblk m c 0 t) (iblk m c 1 t) (iblk m c 2 t) = f at hb ⊢
  frame_out
  obtain ⟨b, s, k, rfl⟩ : ∃ b s k, y = ix3 (n0 := 6) (n1 := 4096) (n2 := 5120) b s k := ⟨_, _, _, eq_ix3 (n0 := 6) (n1 := 4096) (n2 := 5120) y⟩
  exact (hb b s k).trans (congrArg (codesG m c) (emb3 t _)).symm
theorem scales_arr : Value.reg_main_v33_1 m c = scalesG m c := by
  unfold Value.reg_main_v33_1
  refine (dats m 0 c).arrAt_eq_of_covers 4 _ (by decide +kernel) fun t hf y => ?_
  have hb := scales_blk m c t
  rw [after0_4]
  generalize out0_4 (F := Ideal) (iblk m c 0 t) (iblk m c 1 t) (iblk m c 2 t) = f at hb ⊢
  frame_out
  obtain ⟨b, s, z, rfl⟩ : ∃ b s z, y = ix3 (n0 := 6) (n1 := 4096) (n2 := 1) b s z := ⟨_, _, _, eq_ix3 (n0 := 6) (n1 := 4096) (n2 := 1) y⟩
  obtain rfl : z = 0 := Subsingleton.elim _ _
  exact (hb b s).trans (congrArg (scalesG m c) (emb4 t _)).symm
theorem acc_arr : Value.reg_main_v33_2 m c = accG m c := by
  unfold Value.reg_main_v33_2
  refine (dats m 0 c).arrAt_eq_of_covers 5 _ (by decide +kernel) fun t hf y => ?_
  have hb := acc_blk m c t
  rw [after0_5]
  generalize out0_5 (F := Ideal) (iblk m c 0 t) (iblk m c 1 t) (iblk m c 2 t) = f at hb ⊢
  frame_out
  obtain ⟨b, s, n, rfl⟩ : ∃ b s n, y = ix3 (n0 := 6) (n1 := 4096) (n2 := 1792) b s n := ⟨_, _, _, eq_ix3 (n0 := 6) (n1 := 4096) (n2 := 1792) y⟩
  exact (hb b s n).trans (congrArg (accG m c) (emb5 t _)).symm

end Cert.ReferenceIdeal.Ref

end

end
-- ==== Proof.RefOut.lean ====
/- What the reference's host code makes of the region's arrays: the scales and the heads of every row, rotated by the angles
   of its position, in terms of `Spec`. -/
module

public import proofs.«01_k».proof.Proof.Ref

@[expose] public section

set_option maxRecDepth 16384

noncomputable section

namespace Cert.ReferenceIdeal.Ref

open Cert.ReferenceIdeal Cert.ReferenceIdeal.Gen Cert.ReferenceIdeal.Read Idealize.ShloMosaic Idealize.ShloMosaic.TcCoe
open Idealize.SL.Sem Idealize.ShloMosaic.Tactic Cert.Scale Cert.Spec

/-! ### The host's operations at an element -/

section host
variable (pos : (⟨S6x4096, .i32⟩ : BufTy).Contents (Elt Ideal)) (ws : (⟨S1792, .f32⟩ : BufTy).Contents (Elt Ideal))
  (sc : (⟨S6x4096x1, .f32⟩ : BufTy).Contents (Elt Ideal)) (acc : (⟨S6x4096x1792, .f32⟩ : BufTy).Contents (Elt Ideal))

/-- The product of a row with its two scales. -/
def yR (b : Fin 6) (s : Fin 4096) (n : Fin 1792) : EReal := acc (ix3 b s n) * sc (ix3 b s 0) * ws (ix1 n)

theorem y_at (b : Fin 6) (s : Fin 4096) (n : Fin 1792) : val_main_v38 ws sc acc (ix3 b s n) = yR ws sc acc b s n := by
  pointwise [val_main_v38, val_main_v37, val_main_v36, val_main_v35, val_main_v34]
  rfl

/-- The query heads before the rotation. -/
theorem qh_at (b : Fin 6) (s : Fin 4096) (h : Fin 10) (l : Fin 128) :
    val_main_v40 ws sc acc (ix4 b s h l) = headS (yR ws sc acc b s) ⟨h.val, by omega⟩ l := by
  rw [val_main_v40_apply, val_main_v39_apply]
  unfold headS
  rw [← y_at]
  refine congrArg _ ?_
  funext a; apply Fin.ext
  fin_cases a <;> simp [ix3, ix4] <;> omega

/-- The key heads before the rotation. -/
theorem kh_at (b : Fin 6) (s : Fin 4096) (h : Fin 2) (l : Fin 128) :
    val_main_v42 ws sc acc (ix4 b s h l) = headS (yR ws sc acc b s) ⟨10 + h.val, by omega⟩ l := by
  rw [val_main_v42_apply, val_main_v41_apply]
  unfold headS
  rw [← y_at]
  refine congrArg _ ?_
  funext a; apply Fin.ext
  fin_cases a <;> simp [ix3, ix4] <;> omega

/-- The value heads. -/
theorem vh_at (b : Fin 6) (s : Fin 4096) (h : Fin 2) (l : Fin 128) :
    val_main_v44 ws sc acc (ix4 b s h l) = headS (yR ws sc acc b s) ⟨12 + h.val, by omega⟩ l := by
  rw [val_main_v44_apply, val_main_v43_apply]
  unfold headS
  rw [← y_at]
  refine congrArg _ ?_
  funext a; apply Fin.ext
  fin_cases a <;> simp [ix3, ix4] <;> omega

/-- The inverse frequencies. -/
theorem freq_at (f : Fin 64) : val_main_v54 (F := Ideal) (ix1 f) = freqS f := by
  pointwise [val_main_v54, val_main_v53, val_main_v52, val_main_v51, val_main_v50, val_main_v49, val_main_v48, val_main_v47,
    val_main_v46, val_main_v45, val_main_cst_9, val_main_cst_10, val_main_cst_11, val_main_cst_12]
  rfl

/-- The angles. -/
theorem ang_at (b : Fin 6) (s : Fin 4096) (f : Fin 64) : val_main_v60 (F := Ideal) pos (ix3 b s f) = angS (pos (ix2 b s)) f := by
  have e : val_main_v60 (F := Ideal) pos (ix3 b s f)
      = FloatOps.sitofp (F := Ideal) .f32 (pos (ix2 b s) : BitVec 32) * val_main_v54 (F := Ideal) (ix1 f) := by
    pointwise [val_main_v60, val_main_v59, val_main_v58, val_main_v57, val_main_v56, val_main_v55]
  rw [e, freq_at, angS, mul_comm]

theorem cos_at (b : Fin 6) (s : Fin 4096) (f : Fin 64) :
    val_main_v62 (F := Ideal) pos (ix4 b s 0 f) = Ideal.cos (angS (pos (ix2 b s)) f) := by
  have e : val_main_v62 (F := Ideal) pos (ix4 b s 0 f) = Ideal.cos (val_main_v60 (F := Ideal) pos (ix3 b s f)) := by
    pointwise [val_main_v62, val_main_v61]
  rw [e, ang_at]

theorem sin_at (b : Fin 6) (s : Fin 4096) (f : Fin 64) :
    val_main_v64 (F := Ideal) pos (ix4 b s 0 f) = Ideal.sin (angS (pos (ix2 b s)) f) := by
  have e : val_main_v64 (F := Ideal) pos (ix4 b s 0 f) = Ideal.sin (val_main_v60 (F := Ideal) pos (ix3 b s f)) := by
    pointwise [val_main_v64, val_main_v63]
  rw [e, ang_at]

/-- The query heads. -/
theorem q_at (b : Fin 6) (s : Fin 4096) (h : Fin 10) (l : Fin 128) :
    val_main_v78 (F := Ideal) pos ws sc acc (ix4 b s h l)
      = rotS (headS (yR ws sc acc b s) ⟨h.val, by omega⟩) (angS (pos (ix2 b s))) l := by
  by_cases hl : l.val < 64
  · have e : 64 + l.val = l.val + 64 := by omega
    pointwise [val_main_v78, val_main_v77, val_main_v71, val_main_v76, val_main_v68, val_main_v70, val_main_v73, val_main_v75,
      val_main_v65, val_main_v66, val_main_v67, val_main_v69, val_main_v72, val_main_v74]
    simp only [hl, dite_true, rotS, qh_at, cos_at, sin_at, e]
  · have e : 64 + (l.val - 64) = l.val := by omega
    pointwise [val_main_v78, val_main_v77, val_main_v71, val_main_v76, val_main_v68, val_main_v70, val_main_v73, val_main_v75,
      val_main_v65, val_main_v66, val_main_v67, val_main_v69, val_main_v72, val_main_v74]
    simp only [hl, dite_false, rotS, qh_at, cos_at, sin_at, e]

/-- The key heads. -/
theorem k_at (b : Fin 6) (s : Fin 4096) (h : Fin 2) (l : Fin 128) :
    val_main_v92 (F := Ideal) pos ws sc acc (ix4 b s h l)
      = rotS (headS (yR ws sc acc b s) ⟨10 + h.val, by omega⟩) (angS (pos (ix2 b s))) l := by
  by_cases hl : l.val < 64
  · have e : 64 + l.val = l.val + 64 := by omega
    pointwise [val_main_v92, val_main_v91, val_main_v85, val_main_v90, val_main_v82, val_main_v84, val_main_v87, val_main_v89,
      val_main_v79, val_main_v80, val_main_v81, val_main_v83, val_main_v86, val_main_v88]
    simp only [hl, dite_true, rotS, kh_at, cos_at, sin_at, e]
  · have e : 64 + (l.val - 64) = l.val := by omega
    pointwise [val_main_v92, val_main_v91, val_main_v85, val_main_v90, val_main_v82, val_main_v84, val_main_v87, val_main_v89,
      val_main_v79, val_main_v80, val_main_v81, val_main_v83, val_main_v86, val_main_v88]
    simp only [hl, dite_false, rotS, kh_at, cos_at, sin_at, e]

/-- The value heads as they are returned. -/
theorem v_at (b : Fin 6) (s : Fin 4096) (h : Fin 2) (l : Fin 128) :
    val_main_v93 (F := Ideal) ws sc acc (ix4 b s h l) = headS (yR ws sc acc b s) ⟨12 + h.val, by omega⟩ l := by
  rw [← vh_at]; rfl

end host

/-! ### The results in the arguments' rows -/

variable (m : (ℓ : Loc nD τ sig) → Buf (Elt Ideal) ℓ) (c : Dev nD)

/-- The row of the product with its scales, from what the region leaves. -/
theorem yR_arr (b : Fin 6) (s : Fin 4096) :
    yR (m (c, Proc.tc.devRef main_arg4)) (Value.reg_main_v33_1 m c) (Value.reg_main_v33_2 m c) b s
      = yS (argX m c b s) (argG m c) (argW m c) (argS m c) := by
  rw [scales_arr, acc_arr]
  rfl

end Cert.ReferenceIdeal.Ref

end

end
-- ==== Proof.Equal.lean ====
/- The kernel's five results and the reference's are equal, from arguments that are equal: both are `Spec` on the rows of the
   arguments. -/
module

public import proofs.«01_k».proof.Proof.Arrays
public import proofs.«01_k».proof.Proof.RefOut

@[expose] public section

set_option maxRecDepth 16384

noncomputable section

namespace Cert.Equal

open Idealize.ShloMosaic Idealize.ShloMosaic.TcCoe Idealize.SL.Sem Cert.Spec

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- The two memories hold the same arguments. -/
structure Same : Prop where
  a0 : m' (c, Proc.tc.devRef ReferenceIdeal.main_arg0) = m (c, Proc.tc.devRef KernelIdeal.main_arg0)
  a1 : m' (c, Proc.tc.devRef ReferenceIdeal.main_arg1) = m (c, Proc.tc.devRef KernelIdeal.main_arg1)
  a2 : m' (c, Proc.tc.devRef ReferenceIdeal.main_arg2) = m (c, Proc.tc.devRef KernelIdeal.main_arg2)
  a3 : m' (c, Proc.tc.devRef ReferenceIdeal.main_arg3) = m (c, Proc.tc.devRef KernelIdeal.main_arg3)
  a4 : m' (c, Proc.tc.devRef ReferenceIdeal.main_arg4) = m (c, Proc.tc.devRef KernelIdeal.main_arg4)

section
variable {m m' c}

theorem argX_eq (h : Same m m' c) : ReferenceIdeal.Ref.argX m' c = KernelIdeal.Arrays.argX m c :=
  funext fun b => funext fun s => funext fun k => congrFun h.a0 (ix3 b s k)
theorem argG_eq (h : Same m m' c) : ReferenceIdeal.Ref.argG m' c = KernelIdeal.Arrays.argG m c :=
  funext fun k => congrFun h.a1 (ix1 k)
theorem argP_eq (h : Same m m' c) : ReferenceIdeal.Ref.argP m' c = KernelIdeal.Arrays.argP m c :=
  funext fun b => funext fun s => congrFun h.a2 (ix2 b s)
theorem argW_eq (h : Same m m' c) : ReferenceIdeal.Ref.argW m' c = KernelIdeal.Arrays.argW m c :=
  funext fun k => funext fun n => congrFun h.a3 (ix2 k n)
theorem argS_eq (h : Same m m' c) : ReferenceIdeal.Ref.argS m' c = KernelIdeal.Arrays.argS m c :=
  funext fun n => congrFun h.a4 (ix1 n)

/-- A row's scaled product is the same. -/
theorem y_eq (h : Same m m' c) (b : Fin 6) (s : Fin 4096) :
    ReferenceIdeal.Ref.yR (m' (c, Proc.tc.devRef ReferenceIdeal.main_arg4)) (ReferenceIdeal.Value.reg_main_v33_1 m' c)
      (ReferenceIdeal.Value.reg_main_v33_2 m' c) b s
      = yS (KernelIdeal.Arrays.argX m c b s) (KernelIdeal.Arrays.argG m c) (KernelIdeal.Arrays.argW m c) (KernelIdeal.Arrays.argS m c) := by
  rw [ReferenceIdeal.Ref.yR_arr, argX_eq h, argG_eq h, argW_eq h, argS_eq h]

/-- The codes. -/
theorem codes (h : Same m m' c) : ReferenceIdeal.Value.reg_main_v33_0 m' c = KernelIdeal.Value.reg_main_v14_3 m c := by
  rw [ReferenceIdeal.Ref.codes_arr, KernelIdeal.Arrays.codes_arr]
  unfold ReferenceIdeal.Ref.codesG
  rw [argX_eq h, argG_eq h]
  rfl

/-- The scales. -/
theorem scales (h : Same m m' c) :
    ReferenceIdeal.Value.reg_main_v33_1 m' c = KernelIdeal.Read.val_main_v18 (F := Ideal) (KernelIdeal.Value.reg_main_v14_4 m c) := by
  rw [ReferenceIdeal.Ref.scales_arr, KernelIdeal.Arrays.scales_arr]
  unfold ReferenceIdeal.Ref.scalesG
  rw [argX_eq h, argG_eq h]
  funext i
  obtain ⟨b, s, z, rfl⟩ : ∃ b s z, i = ix3 (n0 := 6) (n1 := 4096) (n2 := 1) b s z := ⟨_, _, _, eq_ix3 (n0 := 6) (n1 := 4096) (n2 := 1) i⟩
  obtain rfl : z = 0 := Subsingleton.elim _ _
  rw [KernelIdeal.Read.val_main_v18_apply]
  refine congrArg₂ (KernelIdeal.Arrays.scaleK m c) (Fin.ext ?_) (Fin.ext ?_) <;> simp [ix3] <;> omega

/-- The query heads. -/
theorem q (h : Same m m' c) :
    ReferenceIdeal.Read.val_main_v78 (F := Ideal) (m' (c, Proc.tc.devRef ReferenceIdeal.main_arg2)) (m' (c, Proc.tc.devRef ReferenceIdeal.main_arg4))
      (ReferenceIdeal.Value.reg_main_v33_1 m' c) (ReferenceIdeal.Value.reg_main_v33_2 m' c)
      = KernelIdeal.Read.val_main_v15 (F := Ideal) (KernelIdeal.Value.reg_main_v14_0 m c) := by
  rw [KernelIdeal.Arrays.q_arr]
  funext i
  obtain ⟨b, s, n, l, rfl⟩ : ∃ b s n l, i = ix4 (n0 := 6) (n1 := 4096) (n2 := 10) (n3 := 128) b s n l :=
    ⟨_, _, _, _, eq_ix4 (n0 := 6) (n1 := 4096) (n2 := 10) (n3 := 128) i⟩
  refine (ReferenceIdeal.Ref.q_at _ _ _ _ b s n l).trans ?_
  rw [y_eq h, KernelIdeal.Read.val_main_v15_apply]
  exact congrArg (fun p => rotS _ (angS p) l) (congrFun (congrFun (argP_eq h) b) s)

/-- The key heads. -/
theorem k (h : Same m m' c) :
    ReferenceIdeal.Read.val_main_v92 (F := Ideal) (m' (c, Proc.tc.devRef ReferenceIdeal.main_arg2)) (m' (c, Proc.tc.devRef ReferenceIdeal.main_arg4))
      (ReferenceIdeal.Value.reg_main_v33_1 m' c) (ReferenceIdeal.Value.reg_main_v33_2 m' c)
      = KernelIdeal.Read.val_main_v16 (F := Ideal) (KernelIdeal.Value.reg_main_v14_1 m c) := by
  rw [KernelIdeal.Arrays.k_arr]
  funext i
  obtain ⟨b, s, n, l, rfl⟩ : ∃ b s n l, i = ix4 (n0 := 6) (n1 := 4096) (n2 := 2) (n3 := 128) b s n l :=
    ⟨_, _, _, _, eq_ix4 (n0 := 6) (n1 := 4096) (n2 := 2) (n3 := 128) i⟩
  refine (ReferenceIdeal.Ref.k_at _ _ _ _ b s n l).trans ?_
  rw [y_eq h, KernelIdeal.Read.val_main_v16_apply]
  exact congrArg (fun p => rotS _ (angS p) l) (congrFun (congrFun (argP_eq h) b) s)

/-- The value heads. -/
theorem v (h : Same m m' c) :
    ReferenceIdeal.Read.val_main_v93 (F := Ideal) (m' (c, Proc.tc.devRef ReferenceIdeal.main_arg4))
      (ReferenceIdeal.Value.reg_main_v33_1 m' c) (ReferenceIdeal.Value.reg_main_v33_2 m' c)
      = KernelIdeal.Read.val_main_v17 (F := Ideal) (KernelIdeal.Value.reg_main_v14_2 m c) := by
  rw [KernelIdeal.Arrays.v_arr]
  funext i
  obtain ⟨b, s, n, l, rfl⟩ : ∃ b s n l, i = ix4 (n0 := 6) (n1 := 4096) (n2 := 2) (n3 := 128) b s n l :=
    ⟨_, _, _, _, eq_ix4 (n0 := 6) (n1 := 4096) (n2 := 2) (n3 := 128) i⟩
  refine (ReferenceIdeal.Ref.v_at _ _ _ b s n l).trans ?_
  rw [y_eq h, KernelIdeal.Read.val_main_v17_apply]
  rfl

end

end Cert.Equal

end

end
-- ==== Proof.lean ====
module

public import proofs.«01_k».proof.Proof.Equal
public import proofs.«01_k».proof.Proof.Gen.KernelIdeal.Run
public import proofs.«01_k».proof.Proof.Gen.KernelIdeal.Read
public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Kernel

/-- Kernel and reference end with the same five arrays: each side's run, with the results named by what the kernel's
    region leaves, and the reference's turned into those by `Equal`. -/
theorem algebraic : algebraic_KernelIdeal_ReferenceIdeal := by
  intro m g m' g' _ hagree
  have hs : ∀ c, Equal.Same m m' c := fun c =>
    ⟨(hagree c).1, (hagree c).2.1, (hagree c).2.2.1, (hagree c).2.2.2.1, (hagree c).2.2.2.2⟩
  refine ⟨fun c => KernelIdeal.Read.val_main_v15 (F := Ideal) (KernelIdeal.Value.reg_main_v14_0 m c),
    fun c => KernelIdeal.Read.val_main_v16 (F := Ideal) (KernelIdeal.Value.reg_main_v14_1 m c),
    fun c => KernelIdeal.Read.val_main_v17 (F := Ideal) (KernelIdeal.Value.reg_main_v14_2 m c),
    fun c => KernelIdeal.Value.reg_main_v14_3 m c,
    fun c => KernelIdeal.Read.val_main_v18 (F := Ideal) (KernelIdeal.Value.reg_main_v14_4 m c),
    KernelIdeal.Value.run (F := Ideal) m g, ?_⟩
  refine (θ_run _ _ _).mono (fun r h c => ?_) (ReferenceIdeal.Value.run (F := Ideal) m' g')
  obtain ⟨hq, hk, hv, hc, hsc, hargs⟩ := h c
  refine ⟨hq.trans ?_, hk.trans ?_, hv.trans ?_, hc.trans (Equal.codes (hs c)), hsc.trans (Equal.scales (hs c)), hargs⟩
  · rw [ReferenceIdeal.Read.val_main_v78_eq, ReferenceIdeal.Value.exit_main_arg2, ReferenceIdeal.Value.exit_main_arg4,
      ReferenceIdeal.Value.exit_main_v33_1, ReferenceIdeal.Value.exit_main_v33_2]
    exact Equal.q (hs c)
  · rw [ReferenceIdeal.Read.val_main_v92_eq, ReferenceIdeal.Value.exit_main_arg2, ReferenceIdeal.Value.exit_main_arg4,
      ReferenceIdeal.Value.exit_main_v33_1, ReferenceIdeal.Value.exit_main_v33_2]
    exact Equal.k (hs c)
  · rw [ReferenceIdeal.Read.val_main_v93_eq, ReferenceIdeal.Value.exit_main_arg4,
      ReferenceIdeal.Value.exit_main_v33_1, ReferenceIdeal.Value.exit_main_v33_2]
    exact Equal.v (hs c)

/-- Everything the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ,
  IdealRules.named_const.statement Cert.KernelIdeal.κ "inv_n" .f32 0x394CCCCD#32 ((1 / 5120 : ℝ) : EReal) rfl,
  algebraic⟩

end Cert.Proof

end
